-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_v245) = v1 c
          ∧ r.2.mem ((c.tc : Thread Cert.ReferenceIdeal.nD Cert.ReferenceIdeal.τ).loc Cert.ReferenceIdeal.main_v249) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ preserves_Kernel_KernelIdeal
    ∧ algebraic_KernelIdeal_ReferenceIdeal_pre_finite_router (hKernelIdeal := hKernelIdeal) (hReferenceIdeal := hReferenceIdeal) (hPre_finite_router := hPre_finite_router)
-- ==== Pre_finite_router.lean ====
abbrev S1x2048x1024 : Shape := ⟨3, ![1, 2048, 1024]⟩
abbrev S1024x8 : Shape := ⟨2, ![1024, 8]⟩
abbrev S8 : Shape := ⟨1, ![8]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S1x2048x1024 .f32) (main_arg1 : FVec F S1024x8 .f32) (main_arg2 : FVec F S8 .f32) (main_arg3 : FVec F S8x1024x2048 .f32) (main_arg4 : FVec F S8x2048 .f32) (main_arg5 : FVec F S8x2048x1024 .f32) (main_arg6 : FVec F S8x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S1x2048x1024 : Shape := ⟨3, ![1, 2048, 1024]⟩
abbrev S1024x8 : Shape := ⟨2, ![1024, 8]⟩
abbrev S8 : Shape := ⟨1, ![8]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S2048x1024 : Shape := ⟨2, ![2048, 1024]⟩
abbrev S1x8 : Shape := ⟨2, ![1, 8]⟩
abbrev S2048x2 : Shape := ⟨2, ![2048, 2]⟩
abbrev S24x1 : Shape := ⟨2, ![24, 1]⟩
abbrev S1x1 : Shape := ⟨2, ![1, 1]⟩
abbrev S2048x8 : Shape := ⟨2, ![2048, 8]⟩
abbrev S2048 : Shape := ⟨1, ![2048]⟩
abbrev S2048x1 : Shape := ⟨2, ![2048, 1]⟩
abbrev S1 : Shape := ⟨1, ![1]⟩
abbrev S256x256 : Shape := ⟨2, ![256, 256]⟩
abbrev S256x8 : Shape := ⟨2, ![256, 8]⟩
abbrev S8x8 : Shape := ⟨2, ![8, 8]⟩
abbrev S24x8 : Shape := ⟨2, ![24, 8]⟩
abbrev S24 : Shape := ⟨1, ![24]⟩
abbrev S2x2048 : Shape := ⟨2, ![2, 2048]⟩
abbrev S8x1x2048 : Shape := ⟨3, ![8, 1, 2048]⟩
abbrev S8x1x1024 : Shape := ⟨3, ![8, 1, 1024]⟩
abbrev S1x1024x1024 : Shape := ⟨3, ![1, 1024, 1024]⟩
abbrev S1x1x2048 : Shape := ⟨3, ![1, 1, 2048]⟩
abbrev S1x1x1024 : Shape := ⟨3, ![1, 1, 1024]⟩
abbrev S256x2048 : Shape := ⟨2, ![256, 2048]⟩
abbrev S1x2048 : Shape := ⟨2, ![1, 2048]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 23
  | .vmem => 26
  | .smem => 2
  | _ => 0

abbrev bufTy : (tb : Table) → Fin (tcTables nBuf tb) → BufTy
  | .hbm, ⟨0, _⟩ => ⟨S1x2048x1024, .f32⟩
  | .hbm, ⟨1, _⟩ => ⟨S1024x8, .f32⟩
  | .hbm, ⟨2, _⟩ => ⟨S8, .f32⟩
  | .hbm, ⟨3, _⟩ => ⟨S8x1024x2048, .f32⟩
  | .hbm, ⟨4, _⟩ => ⟨S8x2048, .f32⟩
  | .hbm, ⟨5, _⟩ => ⟨S8x2048x1024, .f32⟩
  | .hbm, ⟨6, _⟩ => ⟨S8x1024, .f32⟩
  | .hbm, ⟨7, _⟩ => ⟨S2048x1024, .f32⟩
  | .hbm, ⟨8, _⟩ => ⟨S1x8, .f32⟩
  | .hbm, ⟨9, _⟩ => ⟨S2048x2, .i32⟩
  | .hbm, ⟨10, _⟩ => ⟨S2048x2, .f32⟩
  | .hbm, ⟨11, _⟩ => ⟨S24x1, .i32⟩
  | .hbm, ⟨12, _⟩ => ⟨S1x1, .i32⟩
  | .hbm, ⟨13, _⟩ => ⟨S1x8, .f32⟩
  | .hbm, ⟨14, _⟩ => ⟨S1x1, .f32⟩
  | .hbm, ⟨15, _⟩ => ⟨S2x2048, .i32⟩
  | .hbm, ⟨16, _⟩ => ⟨S2x2048, .f32⟩
  | .hbm, ⟨17, _⟩ => ⟨S8x1x2048, .f32⟩
  | .hbm, ⟨18, _⟩ => ⟨S8x1x1024, .f32⟩
  | .hbm, ⟨19, _⟩ => ⟨S2048x1024, .f32⟩
  | .hbm, ⟨20, _⟩ => ⟨S1x2048x1024, .f32⟩
  | .hbm, ⟨21, _⟩ => ⟨S8, .f32⟩
  | .hbm, ⟨22, _⟩ => ⟨S_, .f32⟩
  | .local _ .vmem, ⟨0, _⟩ => ⟨S2048x1024, .f32⟩
  | .local _ .vmem, ⟨1, _⟩ => ⟨S1024x8, .f32⟩
  | .local _ .vmem, ⟨2, _⟩ => ⟨S1x8, .f32⟩
  | .local _ .vmem, ⟨3, _⟩ => ⟨S2048x2, .i32⟩
  | .local _ .vmem, ⟨4, _⟩ => ⟨S2048x2, .f32⟩
  | .local _ .vmem, ⟨5, _⟩ => ⟨S24x1, .i32⟩
  | .local _ .vmem, ⟨6, _⟩ => ⟨S1x1, .i32⟩
  | .local _ .vmem, ⟨7, _⟩ => ⟨S1x8, .f32⟩
  | .local _ .vmem, ⟨8, _⟩ => ⟨S1x1, .f32⟩
  | .local _ .vmem, ⟨9, _⟩ => ⟨S2048x1024, .f32⟩
  | .local _ .vmem, ⟨10, _⟩ => ⟨S2x2048, .i32⟩
  | .local _ .vmem, ⟨11, _⟩ => ⟨S2x2048, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1x1x2048, .f32⟩
  | .local _ .vmem, ⟨17, _⟩ => ⟨S1x1x2048, .f32⟩
  | .local _ .vmem, ⟨18, _⟩ => ⟨S1x1024x1024, .f32⟩
  | .local _ .vmem, ⟨19, _⟩ => ⟨S1x1024x1024, .f32⟩
  | .local _ .vmem, ⟨20, _⟩ => ⟨S1x1024x1024, .f32⟩
  | .local _ .vmem, ⟨21, _⟩ => ⟨S1x1024x1024, .f32⟩
  | .local _ .vmem, ⟨22, _⟩ => ⟨S1x1x1024, .f32⟩
  | .local _ .vmem, ⟨23, _⟩ => ⟨S1x1x1024, .f32⟩
  | .local _ .vmem, ⟨24, _⟩ => ⟨S2048x1024, .f32⟩
  | .local _ .vmem, ⟨25, _⟩ => ⟨S256x2048, .i32⟩
  | .local _ .smem, ⟨0, _⟩ => ⟨S24, .i32⟩
  | .local _ .smem, ⟨1, _⟩ => ⟨S1, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v3 : Ref sig .tc := ⟨.hbm, 15, rfl⟩
abbrev main_v4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v5 : Ref sig .tc := ⟨.smem, 0, rfl⟩
abbrev main_v6 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_scratch0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![24], ![false]⟩

abbrev pre1 : Pipeline.Prefetch sig := ⟨2, ![main_v5.idx, main_v6.idx], fun | 0 => main_v5.names | 1 => main_v6.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond1 (i : grid1.Coords) (v1 : BitVec 32) : BitVec 1 :=
  let arg0 : BitVec 32 := BitVec.ofNat 32 (i 0).val
  let v2 : BitVec 1 := Scalar.cmpi .slt arg0 v1
  let v3 : BitVec 32 := Scalar.extui v2
  let c0_i32 : BitVec 32 := 0#32
  let v4 : BitVec 1 := Scalar.cmpi .ne v3 c0_i32
  v4

def k1_cond3 (i : grid1.Coords) : BitVec 1 :=
  let arg0 : BitVec 32 := BitVec.ofNat 32 (i 0).val
  let c0_i32_42 : BitVec 32 := 0#32
  let v70 : BitVec 1 := Scalar.cmpi .eq arg0 c0_i32_42
  let v71 : BitVec 32 := Scalar.extui v70
  let c0_i32_43 : BitVec 32 := 0#32
  let v72 : BitVec 1 := Scalar.cmpi .ne v71 c0_i32_43
  v72

def k1_cond4 (i : grid1.Coords) : BitVec 1 :=
  let arg0 : BitVec 32 := BitVec.ofNat 32 (i 0).val
  let c0_i32_44 : BitVec 32 := 0#32
  let v73 : BitVec 1 := Scalar.cmpi .ne arg0 c0_i32_44
  let v74 : BitVec 32 := Scalar.extui v73
  let c0_i32_45 : BitVec 32 := 0#32
  let v75 : BitVec 1 := Scalar.cmpi .ne v74 c0_i32_45
  v75

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c0_i32 : BitVec 32 := 0#32
  let c1_i32 : BitVec 32 := 1#32
  let c0_i32_0 : BitVec 32 := 0#32
  ![v1.toNat, c0_i32.toNat, c1_i32.toNat]

def cc1_transform_5 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_6 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_7 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c1_i32 : BitVec 32 := 1#32
  let c0_i32 : BitVec 32 := 0#32
  let c0_i32_0 : BitVec 32 := 0#32
  ![v1.toNat, c1_i32.toNat, c0_i32.toNat]

def cc1_transform_8 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x2048 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S2048x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceIdeal.lean ====
abbrev S1x2048x1024 : Shape := ⟨3, ![1, 2048, 1024]⟩
abbrev S1024x8 : Shape := ⟨2, ![1024, 8]⟩
abbrev S8 : Shape := ⟨1, ![8]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S1x2048x8 : Shape := ⟨3, ![1, 2048, 8]⟩
abbrev S1x1x8 : Shape := ⟨3, ![1, 1, 8]⟩
abbrev S_ : Shape := ⟨0, ![]⟩
abbrev S1x2048 : Shape := ⟨2, ![1, 2048]⟩
abbrev S1x2048x1 : Shape := ⟨3, ![1, 2048, 1]⟩
abbrev S1x2048x2 : Shape := ⟨3, ![1, 2048, 2]⟩
abbrev S2048x1024 : Shape := ⟨2, ![2048, 1024]⟩
abbrev S2048x2 : Shape := ⟨2, ![2048, 2]⟩
abbrev S1x1024x2048 : Shape := ⟨3, ![1, 1024, 2048]⟩
abbrev S1024x2048 : Shape := ⟨2, ![1024, 2048]⟩
abbrev S2048x2048 : Shape := ⟨2, ![2048, 2048]⟩
abbrev S2048 : Shape := ⟨1, ![2048]⟩
abbrev S1x1024 : Shape := ⟨2, ![1, 1024]⟩
abbrev S1024 : Shape := ⟨1, ![1024]⟩
abbrev S2048x1 : Shape := ⟨2, ![2048, 1]⟩
abbrev S4096 : Shape := ⟨1, ![4096]⟩
abbrev S4096x1 : Shape := ⟨2, ![4096, 1]⟩
abbrev S1 : Shape := ⟨1, ![1]⟩

abbrev nBuf : Space → Nat
  | .hbm => 342
  | .vmem => 0
  | .smem => 0
  | _ => 0

abbrev hbmTy0_0 (i : Nat) : BufTy := match i % 128 with
  | 0 => ⟨S1x2048x1024, .f32⟩
  | 1 => ⟨S1024x8, .f32⟩
  | 2 => ⟨S8, .f32⟩
  | 3 => ⟨S8x1024x2048, .f32⟩
  | 4 => ⟨S8x2048, .f32⟩
  | 5 => ⟨S8x2048x1024, .f32⟩
  | 6 => ⟨S8x1024, .f32⟩
  | 7 => ⟨S1x2048x8, .f32⟩
  | 8 => ⟨S1x1x8, .f32⟩
  | 9 => ⟨S1x2048x8, .f32⟩
  | 10 => ⟨S1x2048x8, .f32⟩
  | 11 => ⟨S_, .f32⟩
  | 12 => ⟨S1x2048, .f32⟩
  | 13 => ⟨S_, .f32⟩
  | 14 => ⟨S1x2048, .f32⟩
  | 15 => ⟨S1x2048, .f32⟩
  | 16 => ⟨S1x2048x1, .f32⟩
  | 17 => ⟨S1x2048x8, .f32⟩
  | 18 => ⟨S1x2048x8, .f32⟩
  | 19 => ⟨S1x2048x8, .f32⟩
  | 20 => ⟨S_, .f32⟩
  | 21 => ⟨S1x2048, .f32⟩
  | 22 => ⟨S1x2048x1, .f32⟩
  | 23 => ⟨S1x2048x8, .f32⟩
  | 24 => ⟨S1x2048x8, .f32⟩
  | 25 => ⟨S1x2048x2, .f32⟩
  | 26 => ⟨S1x2048x2, .i32⟩
  | 27 => ⟨S_, .f32⟩
  | 28 => ⟨S1x2048, .f32⟩
  | 29 => ⟨S1x2048x1, .f32⟩
  | 30 => ⟨S1x2048x2, .f32⟩
  | 31 => ⟨S1x2048x2, .f32⟩
  | 32 => ⟨S2048x1024, .f32⟩
  | 33 => ⟨S2048x2, .i32⟩
  | 34 => ⟨S2048x2, .f32⟩
  | 35 => ⟨S_, .f32⟩
  | 36 => ⟨S2048x1024, .f32⟩
  | 37 => ⟨S1x1024x2048, .f32⟩
  | 38 => ⟨S1024x2048, .f32⟩
  | 39 => ⟨S2048x2048, .f32⟩
  | 40 => ⟨S1x2048, .f32⟩
  | 41 => ⟨S2048, .f32⟩
  | 42 => ⟨S1x2048, .f32⟩
  | 43 => ⟨S2048x2048, .f32⟩
  | 44 => ⟨S2048x2048, .f32⟩
  | 45 => ⟨S_, .f32⟩
  | 46 => ⟨S2048x2048, .f32⟩
  | 47 => ⟨S2048x2048, .f32⟩
  | 48 => ⟨S1x2048x1024, .f32⟩
  | 49 => ⟨S2048x1024, .f32⟩
  | 50 => ⟨S2048x1024, .f32⟩
  | 51 => ⟨S1x1024, .f32⟩
  | 52 => ⟨S1024, .f32⟩
  | 53 => ⟨S1x1024, .f32⟩
  | 54 => ⟨S2048x1024, .f32⟩
  | 55 => ⟨S2048x1024, .f32⟩
  | 56 => ⟨S_, .i32⟩
  | 57 => ⟨S2048x2, .i32⟩
  | 58 => ⟨S2048x2, .i1⟩
  | 59 => ⟨S_, .f32⟩
  | 60 => ⟨S_, .f32⟩
  | 61 => ⟨S2048x2, .f32⟩
  | 62 => ⟨S2048x2, .f32⟩
  | 63 => ⟨S_, .f32⟩
  | 64 => ⟨S2048, .f32⟩
  | 65 => ⟨S2048x1, .f32⟩
  | 66 => ⟨S2048x1024, .f32⟩
  | 67 => ⟨S2048x1024, .f32⟩
  | 68 => ⟨S2048x1024, .f32⟩
  | 69 => ⟨S1x1024x2048, .f32⟩
  | 70 => ⟨S1024x2048, .f32⟩
  | 71 => ⟨S2048x2048, .f32⟩
  | 72 => ⟨S1x2048, .f32⟩
  | 73 => ⟨S2048, .f32⟩
  | 74 => ⟨S1x2048, .f32⟩
  | 75 => ⟨S2048x2048, .f32⟩
  | 76 => ⟨S2048x2048, .f32⟩
  | 77 => ⟨S_, .f32⟩
  | 78 => ⟨S2048x2048, .f32⟩
  | 79 => ⟨S2048x2048, .f32⟩
  | 80 => ⟨S1x2048x1024, .f32⟩
  | 81 => ⟨S2048x1024, .f32⟩
  | 82 => ⟨S2048x1024, .f32⟩
  | 83 => ⟨S1x1024, .f32⟩
  | 84 => ⟨S1024, .f32⟩
  | 85 => ⟨S1x1024, .f32⟩
  | 86 => ⟨S2048x1024, .f32⟩
  | 87 => ⟨S2048x1024, .f32⟩
  | 88 => ⟨S_, .i32⟩
  | 89 => ⟨S2048x2, .i32⟩
  | 90 => ⟨S2048x2, .i1⟩
  | 91 => ⟨S_, .f32⟩
  | 92 => ⟨S_, .f32⟩
  | 93 => ⟨S2048x2, .f32⟩
  | 94 => ⟨S2048x2, .f32⟩
  | 95 => ⟨S_, .f32⟩
  | 96 => ⟨S2048, .f32⟩
  | 97 => ⟨S2048x1, .f32⟩
  | 98 => ⟨S2048x1024, .f32⟩
  | 99 => ⟨S2048x1024, .f32⟩
  | 100 => ⟨S2048x1024, .f32⟩
  | 101 => ⟨S1x1024x2048, .f32⟩
  | 102 => ⟨S1024x2048, .f32⟩
  | 103 => ⟨S2048x2048, .f32⟩
  | 104 => ⟨S1x2048, .f32⟩
  | 105 => ⟨S2048, .f32⟩
  | 106 => ⟨S1x2048, .f32⟩
  | 107 => ⟨S2048x2048, .f32⟩
  | 108 => ⟨S2048x2048, .f32⟩
  | 109 => ⟨S_, .f32⟩
  | 110 => ⟨S2048x2048, .f32⟩
  | 111 => ⟨S2048x2048, .f32⟩
  | 112 => ⟨S1x2048x1024, .f32⟩
  | 113 => ⟨S2048x1024, .f32⟩
  | 114 => ⟨S2048x1024, .f32⟩
  | 115 => ⟨S1x1024, .f32⟩
  | 116 => ⟨S1024, .f32⟩
  | 117 => ⟨S1x1024, .f32⟩
  | 118 => ⟨S2048x1024, .f32⟩
  | 119 => ⟨S2048x1024, .f32⟩
  | 120 => ⟨S_, .i32⟩
  | 121 => ⟨S2048x2, .i32⟩
  | 122 => ⟨S2048x2, .i1⟩
  | 123 => ⟨S_, .f32⟩
  | 124 => ⟨S_, .f32⟩
  | 125 => ⟨S2048x2, .f32⟩
  | 126 => ⟨S2048x2, .f32⟩
  | 127 => ⟨S_, .f32⟩
  | _ => ⟨S1x2048x1024, .f32⟩

abbrev hbmTy0_1 (i : Nat) : BufTy := match i % 128 with
  | 0 => ⟨S2048, .f32⟩
  | 1 => ⟨S2048x1, .f32⟩
  | 2 => ⟨S2048x1024, .f32⟩
  | 3 => ⟨S2048x1024, .f32⟩
  | 4 => ⟨S2048x1024, .f32⟩
  | 5 => ⟨S1x1024x2048, .f32⟩
  | 6 => ⟨S1024x2048, .f32⟩
  | 7 => ⟨S2048x2048, .f32⟩
  | 8 => ⟨S1x2048, .f32⟩
  | 9 => ⟨S2048, .f32⟩
  | 10 => ⟨S1x2048, .f32⟩
  | 11 => ⟨S2048x2048, .f32⟩
  | 12 => ⟨S2048x2048, .f32⟩
  | 13 => ⟨S_, .f32⟩
  | 14 => ⟨S2048x2048, .f32⟩
  | 15 => ⟨S2048x2048, .f32⟩
  | 16 => ⟨S1x2048x1024, .f32⟩
  | 17 => ⟨S2048x1024, .f32⟩
  | 18 => ⟨S2048x1024, .f32⟩
  | 19 => ⟨S1x1024, .f32⟩
  | 20 => ⟨S1024, .f32⟩
  | 21 => ⟨S1x1024, .f32⟩
  | 22 => ⟨S2048x1024, .f32⟩
  | 23 => ⟨S2048x1024, .f32⟩
  | 24 => ⟨S_, .i32⟩
  | 25 => ⟨S2048x2, .i32⟩
  | 26 => ⟨S2048x2, .i1⟩
  | 27 => ⟨S_, .f32⟩
  | 28 => ⟨S_, .f32⟩
  | 29 => ⟨S2048x2, .f32⟩
  | 30 => ⟨S2048x2, .f32⟩
  | 31 => ⟨S_, .f32⟩
  | 32 => ⟨S2048, .f32⟩
  | 33 => ⟨S2048x1, .f32⟩
  | 34 => ⟨S2048x1024, .f32⟩
  | 35 => ⟨S2048x1024, .f32⟩
  | 36 => ⟨S2048x1024, .f32⟩
  | 37 => ⟨S1x1024x2048, .f32⟩
  | 38 => ⟨S1024x2048, .f32⟩
  | 39 => ⟨S2048x2048, .f32⟩
  | 40 => ⟨S1x2048, .f32⟩
  | 41 => ⟨S2048, .f32⟩
  | 42 => ⟨S1x2048, .f32⟩
  | 43 => ⟨S2048x2048, .f32⟩
  | 44 => ⟨S2048x2048, .f32⟩
  | 45 => ⟨S_, .f32⟩
  | 46 => ⟨S2048x2048, .f32⟩
  | 47 => ⟨S2048x2048, .f32⟩
  | 48 => ⟨S1x2048x1024, .f32⟩
  | 49 => ⟨S2048x1024, .f32⟩
  | 50 => ⟨S2048x1024, .f32⟩
  | 51 => ⟨S1x1024, .f32⟩
  | 52 => ⟨S1024, .f32⟩
  | 53 => ⟨S1x1024, .f32⟩
  | 54 => ⟨S2048x1024, .f32⟩
  | 55 => ⟨S2048x1024, .f32⟩
  | 56 => ⟨S_, .i32⟩
  | 57 => ⟨S2048x2, .i32⟩
  | 58 => ⟨S2048x2, .i1⟩
  | 59 => ⟨S_, .f32⟩
  | 60 => ⟨S_, .f32⟩
  | 61 => ⟨S2048x2, .f32⟩
  | 62 => ⟨S2048x2, .f32⟩
  | 63 => ⟨S_, .f32⟩
  | 64 => ⟨S2048, .f32⟩
  | 65 => ⟨S2048x1, .f32⟩
  | 66 => ⟨S2048x1024, .f32⟩
  | 67 => ⟨S2048x1024, .f32⟩
  | 68 => ⟨S2048x1024, .f32⟩
  | 69 => ⟨S1x1024x2048, .f32⟩
  | 70 => ⟨S1024x2048, .f32⟩
  | 71 => ⟨S2048x2048, .f32⟩
  | 72 => ⟨S1x2048, .f32⟩
  | 73 => ⟨S2048, .f32⟩
  | 74 => ⟨S1x2048, .f32⟩
  | 75 => ⟨S2048x2048, .f32⟩
  | 76 => ⟨S2048x2048, .f32⟩
  | 77 => ⟨S_, .f32⟩
  | 78 => ⟨S2048x2048, .f32⟩
  | 79 => ⟨S2048x2048, .f32⟩
  | 80 => ⟨S1x2048x1024, .f32⟩
  | 81 => ⟨S2048x1024, .f32⟩
  | 82 => ⟨S2048x1024, .f32⟩
  | 83 => ⟨S1x1024, .f32⟩
  | 84 => ⟨S1024, .f32⟩
  | 85 => ⟨S1x1024, .f32⟩
  | 86 => ⟨S2048x1024, .f32⟩
  | 87 => ⟨S2048x1024, .f32⟩
  | 88 => ⟨S_, .i32⟩
  | 89 => ⟨S2048x2, .i32⟩
  | 90 => ⟨S2048x2, .i1⟩
  | 91 => ⟨S_, .f32⟩
  | 92 => ⟨S_, .f32⟩
  | 93 => ⟨S2048x2, .f32⟩
  | 94 => ⟨S2048x2, .f32⟩
  | 95 => ⟨S_, .f32⟩
  | 96 => ⟨S2048, .f32⟩
  | 97 => ⟨S2048x1, .f32⟩
  | 98 => ⟨S2048x1024, .f32⟩
  | 99 => ⟨S2048x1024, .f32⟩
  | 100 => ⟨S2048x1024, .f32⟩
  | 101 => ⟨S1x1024x2048, .f32⟩
  | 102 => ⟨S1024x2048, .f32⟩
  | 103 => ⟨S2048x2048, .f32⟩
  | 104 => ⟨S1x2048, .f32⟩
  | 105 => ⟨S2048, .f32⟩
  | 106 => ⟨S1x2048, .f32⟩
  | 107 => ⟨S2048x2048, .f32⟩
  | 108 => ⟨S2048x2048, .f32⟩
  | 109 => ⟨S_, .f32⟩
  | 110 => ⟨S2048x2048, .f32⟩
  | 111 => ⟨S2048x2048, .f32⟩
  | 112 => ⟨S1x2048x1024, .f32⟩
  | 113 => ⟨S2048x1024, .f32⟩
  | 114 => ⟨S2048x1024, .f32⟩
  | 115 => ⟨S1x1024, .f32⟩
  | 116 => ⟨S1024, .f32⟩
  | 117 => ⟨S1x1024, .f32⟩
  | 118 => ⟨S2048x1024, .f32⟩
  | 119 => ⟨S2048x1024, .f32⟩
  | 120 => ⟨S_, .i32⟩
  | 121 => ⟨S2048x2, .i32⟩
  | 122 => ⟨S2048x2, .i1⟩
  | 123 => ⟨S_, .f32⟩
  | 124 => ⟨S_, .f32⟩
  | 125 => ⟨S2048x2, .f32⟩
  | 126 => ⟨S2048x2, .f32⟩
  | 127 => ⟨S_, .f32⟩
  | _ => ⟨S1x2048x1024, .f32⟩

abbrev hbmTy0_2 (i : Nat) : BufTy := match i % 128 with
  | 0 => ⟨S2048, .f32⟩
  | 1 => ⟨S2048x1, .f32⟩
  | 2 => ⟨S2048x1024, .f32⟩
  | 3 => ⟨S2048x1024, .f32⟩
  | 4 => ⟨S2048x1024, .f32⟩
  | 5 => ⟨S1x1024x2048, .f32⟩
  | 6 => ⟨S1024x2048, .f32⟩
  | 7 => ⟨S2048x2048, .f32⟩
  | 8 => ⟨S1x2048, .f32⟩
  | 9 => ⟨S2048, .f32⟩
  | 10 => ⟨S1x2048, .f32⟩
  | 11 => ⟨S2048x2048, .f32⟩
  | 12 => ⟨S2048x2048, .f32⟩
  | 13 => ⟨S_, .f32⟩
  | 14 => ⟨S2048x2048, .f32⟩
  | 15 => ⟨S2048x2048, .f32⟩
  | 16 => ⟨S1x2048x1024, .f32⟩
  | 17 => ⟨S2048x1024, .f32⟩
  | 18 => ⟨S2048x1024, .f32⟩
  | 19 => ⟨S1x1024, .f32⟩
  | 20 => ⟨S1024, .f32⟩
  | 21 => ⟨S1x1024, .f32⟩
  | 22 => ⟨S2048x1024, .f32⟩
  | 23 => ⟨S2048x1024, .f32⟩
  | 24 => ⟨S_, .i32⟩
  | 25 => ⟨S2048x2, .i32⟩
  | 26 => ⟨S2048x2, .i1⟩
  | 27 => ⟨S_, .f32⟩
  | 28 => ⟨S_, .f32⟩
  | 29 => ⟨S2048x2, .f32⟩
  | 30 => ⟨S2048x2, .f32⟩
  | 31 => ⟨S_, .f32⟩
  | 32 => ⟨S2048, .f32⟩
  | 33 => ⟨S2048x1, .f32⟩
  | 34 => ⟨S2048x1024, .f32⟩
  | 35 => ⟨S2048x1024, .f32⟩
  | 36 => ⟨S2048x1024, .f32⟩
  | 37 => ⟨S1x2048x1024, .f32⟩
  | 38 => ⟨S4096, .i32⟩
  | 39 => ⟨S_, .i32⟩
  | 40 => ⟨S8, .i32⟩
  | 41 => ⟨S_, .i32⟩
  | 42 => ⟨S_, .i32⟩
  | 43 => ⟨S4096, .i32⟩
  | 44 => ⟨S4096, .i32⟩
  | 45 => ⟨S_, .i32⟩
  | 46 => ⟨S4096, .i32⟩
  | 47 => ⟨S4096, .i1⟩
  | 48 => ⟨S_, .i32⟩
  | 49 => ⟨S4096, .i32⟩
  | 50 => ⟨S4096, .i32⟩
  | 51 => ⟨S4096, .i32⟩
  | 52 => ⟨S4096x1, .i32⟩
  | 53 => ⟨S_, .i32⟩
  | 54 => ⟨S4096, .i32⟩
  | 55 => ⟨S8, .i32⟩
  | 56 => ⟨S8, .f32⟩
  | 57 => ⟨S_, .f32⟩
  | 58 => ⟨S8, .f32⟩
  | 59 => ⟨S8, .f32⟩
  | 60 => ⟨S_, .f32⟩
  | 61 => ⟨S8, .f32⟩
  | 62 => ⟨S_, .f32⟩
  | 63 => ⟨S8, .f32⟩
  | 64 => ⟨S8, .f32⟩
  | 65 => ⟨S_, .i32⟩
  | 66 => ⟨S_, .f32⟩
  | 67 => ⟨S_, .f32⟩
  | 68 => ⟨S1, .f32⟩
  | 69 => ⟨S_, .f32⟩
  | 70 => ⟨S1, .f32⟩
  | 71 => ⟨S1, .f32⟩
  | 72 => ⟨S8, .f32⟩
  | 73 => ⟨S8, .f32⟩
  | 74 => ⟨S8, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .i1⟩
  | 83 => ⟨S_, .f32⟩
  | 84 => ⟨S_, .f32⟩
  | 85 => ⟨S_, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_values : Ref sig .tc := ⟨.hbm, 25, rfl⟩
abbrev main_indices : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_7 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_8 : Ref sig .tc := ⟨.hbm, 88, rfl⟩
abbrev main_v67 : Ref sig .tc := ⟨.hbm, 89, rfl⟩
abbrev main_v68 : Ref sig .tc := ⟨.hbm, 90, rfl⟩
abbrev main_cst_9 : Ref sig .tc := ⟨.hbm, 91, rfl⟩
abbrev main_call1_v0 : Ref sig .tc := ⟨.hbm, 92, rfl⟩
abbrev main_call1_v1 : Ref sig .tc := ⟨.hbm, 93, rfl⟩
abbrev main_v69 : Ref sig .tc := ⟨.hbm, 94, rfl⟩
abbrev main_cst_10 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_c_12 : Ref sig .tc := ⟨.hbm, 120, rfl⟩
abbrev main_v93 : Ref sig .tc := ⟨.hbm, 121, rfl⟩
abbrev main_v94 : Ref sig .tc := ⟨.hbm, 122, rfl⟩
abbrev main_cst_13 : Ref sig .tc := ⟨.hbm, 123, rfl⟩
abbrev main_call2_v0 : Ref sig .tc := ⟨.hbm, 124, rfl⟩
abbrev main_call2_v1 : Ref sig .tc := ⟨.hbm, 125, rfl⟩
abbrev main_v95 : Ref sig .tc := ⟨.hbm, 126, rfl⟩
abbrev main_cst_14 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_15 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_c_16 : Ref sig .tc := ⟨.hbm, 152, rfl⟩
abbrev main_v119 : Ref sig .tc := ⟨.hbm, 153, rfl⟩
abbrev main_v120 : Ref sig .tc := ⟨.hbm, 154, rfl⟩
abbrev main_cst_17 : Ref sig .tc := ⟨.hbm, 155, rfl⟩
abbrev main_call3_v0 : Ref sig .tc := ⟨.hbm, 156, rfl⟩
abbrev main_call3_v1 : Ref sig .tc := ⟨.hbm, 157, rfl⟩
abbrev main_v121 : Ref sig .tc := ⟨.hbm, 158, rfl⟩
abbrev main_cst_18 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_19 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_c_20 : Ref sig .tc := ⟨.hbm, 184, rfl⟩
abbrev main_v145 : Ref sig .tc := ⟨.hbm, 185, rfl⟩
abbrev main_v146 : Ref sig .tc := ⟨.hbm, 186, rfl⟩
abbrev main_cst_21 : Ref sig .tc := ⟨.hbm, 187, rfl⟩
abbrev main_call4_v0 : Ref sig .tc := ⟨.hbm, 188, rfl⟩
abbrev main_call4_v1 : Ref sig .tc := ⟨.hbm, 189, rfl⟩
abbrev main_v147 : Ref sig .tc := ⟨.hbm, 190, rfl⟩
abbrev main_cst_22 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_cst_23 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_c_24 : Ref sig .tc := ⟨.hbm, 216, rfl⟩
abbrev main_v171 : Ref sig .tc := ⟨.hbm, 217, rfl⟩
abbrev main_v172 : Ref sig .tc := ⟨.hbm, 218, rfl⟩
abbrev main_cst_25 : Ref sig .tc := ⟨.hbm, 219, rfl⟩
abbrev main_call5_v0 : Ref sig .tc := ⟨.hbm, 220, rfl⟩
abbrev main_call5_v1 : Ref sig .tc := ⟨.hbm, 221, rfl⟩
abbrev main_v173 : Ref sig .tc := ⟨.hbm, 222, rfl⟩
abbrev main_cst_26 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_cst_27 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_c_28 : Ref sig .tc := ⟨.hbm, 248, rfl⟩
abbrev main_v197 : Ref sig .tc := ⟨.hbm, 249, rfl⟩
abbrev main_v198 : Ref sig .tc := ⟨.hbm, 250, rfl⟩
abbrev main_cst_29 : Ref sig .tc := ⟨.hbm, 251, rfl⟩
abbrev main_call6_v0 : Ref sig .tc := ⟨.hbm, 252, rfl⟩
abbrev main_call6_v1 : Ref sig .tc := ⟨.hbm, 253, rfl⟩
abbrev main_v199 : Ref sig .tc := ⟨.hbm, 254, rfl⟩
abbrev main_cst_30 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_cst_31 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_c_32 : Ref sig .tc := ⟨.hbm, 280, rfl⟩
abbrev main_v223 : Ref sig .tc := ⟨.hbm, 281, rfl⟩
abbrev main_v224 : Ref sig .tc := ⟨.hbm, 282, rfl⟩
abbrev main_cst_33 : Ref sig .tc := ⟨.hbm, 283, rfl⟩
abbrev main_call7_v0 : Ref sig .tc := ⟨.hbm, 284, rfl⟩
abbrev main_call7_v1 : Ref sig .tc := ⟨.hbm, 285, rfl⟩
abbrev main_v225 : Ref sig .tc := ⟨.hbm, 286, rfl⟩
abbrev main_cst_34 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_c_35 : Ref sig .tc := ⟨.hbm, 295, rfl⟩
abbrev main_v233 : Ref sig .tc := ⟨.hbm, 296, rfl⟩
abbrev main_c_36 : Ref sig .tc := ⟨.hbm, 297, rfl⟩
abbrev main_call8_v0 : Ref sig .tc := ⟨.hbm, 298, rfl⟩
abbrev main_call8_v1 : Ref sig .tc := ⟨.hbm, 299, rfl⟩
abbrev main_v234 : Ref sig .tc := ⟨.hbm, 300, rfl⟩
abbrev main_c_37 : Ref sig .tc := ⟨.hbm, 301, rfl⟩
abbrev main_v235 : Ref sig .tc := ⟨.hbm, 302, rfl⟩
abbrev main_v236 : Ref sig .tc := ⟨.hbm, 303, rfl⟩
abbrev main_c_38 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_c_39 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_cst_40 : Ref sig .tc := ⟨.hbm, 313, rfl⟩
abbrev main_v244 : Ref sig .tc := ⟨.hbm, 314, rfl⟩
abbrev main_v245 : Ref sig .tc := ⟨.hbm, 315, rfl⟩
abbrev main_cst_41 : Ref sig .tc := ⟨.hbm, 316, rfl⟩
abbrev main_v246 : Ref sig .tc := ⟨.hbm, 317, rfl⟩
abbrev main_cst_42 : Ref sig .tc := ⟨.hbm, 318, rfl⟩
abbrev main_v247 : Ref sig .tc := ⟨.hbm, 319, rfl⟩
abbrev main_v248 : Ref sig .tc := ⟨.hbm, 320, rfl⟩
abbrev main_c_43 : Ref sig .tc := ⟨.hbm, 321, rfl⟩
abbrev main_call9_cst : Ref sig .tc := ⟨.hbm, 322, rfl⟩
abbrev main_call9_v0 : Ref sig .tc := ⟨.hbm, 323, rfl⟩
abbrev main_call9_v1 : Ref sig .tc := ⟨.hbm, 324, rfl⟩
abbrev main_call9_cst_0 : Ref sig .tc := ⟨.hbm, 325, rfl⟩
abbrev main_call9_v2 : Ref sig .tc := ⟨.hbm, 326, rfl⟩
abbrev main_call9_v3 : Ref sig .tc := ⟨.hbm, 327, rfl⟩
abbrev main_call9_v4 : Ref sig .tc := ⟨.hbm, 328, rfl⟩
abbrev main_call9_v5 : Ref sig .tc := ⟨.hbm, 329, rfl⟩
abbrev main_call9_v6 : Ref sig .tc := ⟨.hbm, 330, rfl⟩
abbrev main_call9_v7 : Ref sig .tc := ⟨.hbm, 331, rfl⟩
abbrev main_call9_cst_1 : Ref sig .tc := ⟨.hbm, 332, rfl⟩
abbrev main_call9_v8 : Ref sig .tc := ⟨.hbm, 333, rfl⟩
abbrev main_call9_cst_2 : Ref sig .tc := ⟨.hbm, 334, rfl⟩
abbrev main_call9_v9 : Ref sig .tc := ⟨.hbm, 335, rfl⟩
abbrev main_call9_v10 : Ref sig .tc := ⟨.hbm, 336, rfl⟩
abbrev main_call9_cst_3 : Ref sig .tc := ⟨.hbm, 337, rfl⟩
abbrev main_call9_v11 : Ref sig .tc := ⟨.hbm, 338, rfl⟩
abbrev main_call9_cst_4 : Ref sig .tc := ⟨.hbm, 339, rfl⟩
abbrev main_call9_call0_v0 : Ref sig .tc := ⟨.hbm, 340, rfl⟩
abbrev main_v249 : Ref sig .tc := ⟨.hbm, 341, rfl⟩

abbrev nD : Nat := 1
abbrev τ : Topo := Topo.v7x

variable {F : FTy → Type} [FloatOps F]
-- ==== Proof.RunI.Router.lean ====
/-
  The router kernel's body: from its nine staging buffers held whole it runs to its return, the three inputs
  as they were and each output overwritten by its named payload.
-/
module

public import proofs.«01_k».proof.Proof.Gen.KernelIdeal.Launch
public import proofs.«01_k».proof.Proof.Gen.KernelIdeal.Skeleton
public import proofs.«01_k».proof.Proof.Gen.KernelIdeal.Regions
public import Idealize.ShloMosaic.Lib.Tactic
public import Idealize.ShloMosaic.Lib.VecWindow

@[expose] public section

set_option maxRecDepth 16384

noncomputable section

namespace Cert.Proof.RunI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the whole run: the pipelines' and the transfer counters. -/
abbrev UU : Type := UR sig nD τ × Counters

local notation "𝕄" => MT nD τ sig Unit (Elt F) ℕ UU ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer held whole at `f`. -/
abbrev pt (c : Dev nD) {sp : Space} {S : Shape} {e : EltTy} (M : Memref sig .tc sp S e) (f : Bf (F := F) c M) : sProp 𝕄 :=
  M.view.loc (c : Thread nD τ) ↦{fullShare} f

section Outputs

variable (x : FVec F S2048x1024 .f32) (wg : FVec F S1024x8 .f32) (bg : FVec F S1x8 .f32)

/-- The sum of the two one-hot choices of every token. -/
def rOhs : FVec F S2048x8 .f32 := k0_pay11 (k0_pay5 x wg bg) (k0_pay8 x wg bg)
/-- How many of the first 256 tokens' choices go to each expert. -/
def rCnt0 : FVec F S8 .f32 := k0_pay18 (k0_pay5 x wg bg) (k0_pay8 x wg bg)
/-- The counts of the first seven chunks of 256 tokens, added up. -/
def rC7 : FVec F S1x8 .f32 := k0_pay37 (rOhs x wg bg) (k0_pay15 (F := F)) (rCnt0 x wg bg)
/-- The last chunk's one-hot choices. -/
def rLast : FVec F S256x8 .f32 := k0_pay38 (rOhs x wg bg)
/-- Where each token's two choices go in the sorted order: the router's first output. -/
def oDst : IVec S2048x2 32 :=
  k0_pay43 (k0_pay5 x wg bg) (k0_pay9 (F := F) (k0_pay8 x wg bg)) (k0_pay17 (k0_pay5 x wg bg) (k0_pay8 x wg bg))
    (k0_pay21 (rOhs x wg bg) (k0_pay14 (F := F)) (k0_pay15 (F := F)) (rCnt0 x wg bg))
    (k0_pay24 (rOhs x wg bg) (k0_pay14 (F := F)) (k0_pay15 (F := F)) (rCnt0 x wg bg))
    (k0_pay27 (rOhs x wg bg) (k0_pay14 (F := F)) (k0_pay15 (F := F)) (rCnt0 x wg bg))
    (k0_pay30 (rOhs x wg bg) (k0_pay14 (F := F)) (k0_pay15 (F := F)) (rCnt0 x wg bg))
    (k0_pay33 (rOhs x wg bg) (k0_pay14 (F := F)) (k0_pay15 (F := F)) (rCnt0 x wg bg))
    (k0_pay36 (rOhs x wg bg) (k0_pay14 (F := F)) (k0_pay15 (F := F)) (rCnt0 x wg bg))
    (rC7 x wg bg) (rLast x wg bg)
    (k0_pay39 (rOhs x wg bg) (k0_pay14 (F := F)))
    (k0_pay40 (rOhs x wg bg) (k0_pay15 (F := F)) (rCnt0 x wg bg))
/-- The two normalised weights of every token. -/
def oWw : FVec F S2048x2 .f32 := k0_pay10 (k0_pay3 x wg bg) (k0_pay7 x wg bg)
/-- The expert that owns each block of 256 sorted rows. -/
def oBe : IVec S24x1 32 := k0_pay44 (rC7 x wg bg) (rLast x wg bg)
/-- The number of blocks in use. -/
def oUsed : IVec S1x1 32 := k0_pay1 (k0_pay41 (rC7 x wg bg) (rLast x wg bg))
/-- The share of all choices each expert receives. -/
def oUsage : FVec F S1x8 .f32 := k0_pay12 (k0_pay5 x wg bg) (k0_pay8 x wg bg)
/-- The load-balancing loss. -/
def oLbl : FVec F S1x1 .f32 := k0_pay13 (k0_pay2 x wg bg)

end Outputs

/-- A whole buffer after one store over all of it holds the stored vector. -/
theorem pt_stored (c : Dev nD) (b : Ref sig .tc) (f : b.ty.Contents (Elt F)) {off : Fin b.ty.shape.rank → ℕ}
    (inb : ∀ a, off a + b.ty.shape.size a ≤ b.ty.shape.size a) (w w' : b.ty.shape.Idx → Elt F b.ty.elt) (hw : w = w') :
    (pt c (Memref.whole b) ((Memref.whole b).view.writes (Elt F) f [⟨Rect.unit off b.ty.shape.size inb, w⟩]) : sProp 𝕄)
      ⊢ pt c (Memref.whole b) w' :=
  Entails.of_eq (congrArg (fun g => (pt c (Memref.whole b) g : sProp 𝕄))
    (((View.read_whole b _).symm.trans (View.read_writes_full (View.whole b) f inb w [])).trans hw))

/-- A load of a whole buffer reads its contents. -/
theorem readAt_all (b : Ref sig .tc) (f : b.ty.Contents (Elt F)) {off : Fin b.ty.shape.rank → ℕ}
    (inb : ∀ a, off a + b.ty.shape.size a ≤ b.ty.shape.size a) :
    (Memref.whole b : Memref sig .tc _ _ _).view.readAt (Elt F) (Rect.unit off b.ty.shape.size inb).toLoadRect f = f :=
  (View.readAt_full (View.whole b) f inb).trans (View.read_whole b f)

/-- The router: from its nine staging buffers held whole it runs to its return, the inputs as they were and the
    outputs at the six payloads. -/
theorem routerRun (c : Dev nD)
    (f0 : Bf (F := F) c (stage0_0 0)) (f1 : Bf (F := F) c (stage0_1 0)) (f2 : Bf (F := F) c (stage0_2 0))
    (f3 : Bf (F := F) c (stage0_3 0)) (f4 : Bf (F := F) c (stage0_4 0)) (f5 : Bf (F := F) c (stage0_5 0))
    (f6 : Bf (F := F) c (stage0_6 0)) (f7 : Bf (F := F) c (stage0_7 0)) (f8 : Bf (F := F) c (stage0_8 0))
    (E : Set ℕ) (Q : PUnit → sProp 𝕄) :
    iprop(pt c (stage0_0 0) f0 ∗ pt c (stage0_1 0) f1 ∗ pt c (stage0_2 0) f2 ∗ pt c (stage0_3 0) f3 ∗ pt c (stage0_4 0) f4
        ∗ pt c (stage0_5 0) f5 ∗ pt c (stage0_6 0) f6 ∗ pt c (stage0_7 0) f7 ∗ pt c (stage0_8 0) f8 ∗
        (iprop(pt c (stage0_0 0) f0 ∗ pt c (stage0_1 0) f1 ∗ pt c (stage0_2 0) f2 ∗ pt c (stage0_3 0) (oDst f0 f1 f2)
          ∗ pt c (stage0_4 0) (oWw f0 f1 f2) ∗ pt c (stage0_5 0) (oBe f0 f1 f2) ∗ pt c (stage0_6 0) (oUsed f0 f1 f2)
          ∗ pt c (stage0_7 0) (oUsage f0 f1 f2) ∗ pt c (stage0_8 0) (oLbl f0 f1 f2)) -∗ Q ⟨⟩))
      ⊢ wp frame (wpE (defs₀ (F := F)) Variants.none c none) E
        (cc0__router_body (stage0_0 0) (hstage0_0 0) (stage0_1 0) (hstage0_1 0) (stage0_2 0) (hstage0_2 0) (stage0_3 0) (hstage0_3 0)
          (stage0_4 0) (hstage0_4 0) (stage0_5 0) (hstage0_5 0) (stage0_6 0) (hstage0_6 0) (stage0_7 0) (hstage0_7 0) (stage0_8 0) (hstage0_8 0)) Q := by
  rw [cc0__router_body_eq_skeleton]
  iintro ⟨H0, H1, H2, H3, H4, H5, H6, H7, H8, Hk⟩
  sl_unfold [cc0__router_body_skel, k0_part1_eq_skeleton]
  sl_exec
  sl_step
  have e0 : View.readAt (Elt F) (stage0_0 0).view (Rect.unit ![0, 0] S2048x1024.size inb_S2048x1024_S2048x1024_0_0).toLoadRect f0 = f0 :=
    readAt_all cc0_stg0_0 f0 _
  have e1 : View.readAt (Elt F) (stage0_1 0).view (Rect.unit ![0, 0] S1024x8.size inb_S1024x8_S1024x8_0_0).toLoadRect f1 = f1 :=
    readAt_all cc0_stg1_0 f1 _
  have e2 : View.readAt (Elt F) (stage0_2 0).view (Rect.unit ![0, 0] S1x8.size inb_S1x8_S1x8_0_0).toLoadRect f2 = f2 :=
    readAt_all cc0_stg2_0 f2 _
  iapply Hk
  isplitl [H0]; · iexact H0
  isplitl [H1]; · iexact H1
  isplitl [H2]; · iexact H2
  isplitl [H3]
  · iapply (pt_stored c cc0_stg3_0 f3 _ _ (oDst f0 f1 f2) ?hw3); rotate_left; (· iexact H3)
    delta routerRun.sl.r_20 routerRun.sl.r_19 routerRun.sl.r_18 routerRun.sl.r_17 routerRun.sl.r_16 routerRun.sl.r_15 routerRun.sl.r_14 routerRun.sl.r_13 routerRun.sl.r_12 routerRun.sl.r_11 routerRun.sl.r_10 routerRun.sl.r_9 routerRun.sl.r_8 routerRun.sl.r_7 routerRun.sl.r_6 routerRun.sl.r_5 routerRun.sl.r_4 routerRun.sl.r_3 routerRun.sl.r_2 routerRun.sl.r_1 routerRun.sl.r
    rw [e0, e1, e2]; rfl
  isplitl [H4]
  · iapply (pt_stored c cc0_stg4_0 f4 _ _ (oWw f0 f1 f2) ?hw4); rotate_left; (· iexact H4)
    delta routerRun.sl.r_20 routerRun.sl.r_19 routerRun.sl.r_18 routerRun.sl.r_17 routerRun.sl.r_16 routerRun.sl.r_15 routerRun.sl.r_14 routerRun.sl.r_13 routerRun.sl.r_12 routerRun.sl.r_11 routerRun.sl.r_10 routerRun.sl.r_9 routerRun.sl.r_8 routerRun.sl.r_7 routerRun.sl.r_6 routerRun.sl.r_5 routerRun.sl.r_4 routerRun.sl.r_3 routerRun.sl.r_2 routerRun.sl.r_1 routerRun.sl.r
    rw [e0, e1, e2]; rfl
  isplitl [H5]
  · iapply (pt_stored c cc0_stg5_0 f5 _ _ (oBe f0 f1 f2) ?hw5); rotate_left; (· iexact H5)
    delta routerRun.sl.r_20 routerRun.sl.r_19 routerRun.sl.r_18 routerRun.sl.r_17 routerRun.sl.r_16 routerRun.sl.r_15 routerRun.sl.r_14 routerRun.sl.r_13 routerRun.sl.r_12 routerRun.sl.r_11 routerRun.sl.r_10 routerRun.sl.r_9 routerRun.sl.r_8 routerRun.sl.r_7 routerRun.sl.r_6 routerRun.sl.r_5 routerRun.sl.r_4 routerRun.sl.r_3 routerRun.sl.r_2 routerRun.sl.r_1 routerRun.sl.r
    rw [e0, e1, e2]; rfl
  isplitl [H6]
  · iapply (pt_stored c cc0_stg6_0 f6 _ _ (oUsed f0 f1 f2) ?hw6); rotate_left; (· iexact H6)
    delta routerRun.sl.r_20 routerRun.sl.r_19 routerRun.sl.r_18 routerRun.sl.r_17 routerRun.sl.r_16 routerRun.sl.r_15 routerRun.sl.r_14 routerRun.sl.r_13 routerRun.sl.r_12 routerRun.sl.r_11 routerRun.sl.r_10 routerRun.sl.r_9 routerRun.sl.r_8 routerRun.sl.r_7 routerRun.sl.r_6 routerRun.sl.r_5 routerRun.sl.r_4 routerRun.sl.r_3 routerRun.sl.r_2 routerRun.sl.r_1 routerRun.sl.r
    rw [e0, e1, e2]; rfl
  isplitl [H7]
  · iapply (pt_stored c cc0_stg7_0 f7 _ _ (oUsage f0 f1 f2) ?hw7); rotate_left; (· iexact H7)
    delta routerRun.sl.r_20 routerRun.sl.r_19 routerRun.sl.r_18 routerRun.sl.r_17 routerRun.sl.r_16 routerRun.sl.r_15 routerRun.sl.r_14 routerRun.sl.r_13 routerRun.sl.r_12 routerRun.sl.r_11 routerRun.sl.r_10 routerRun.sl.r_9 routerRun.sl.r_8 routerRun.sl.r_7 routerRun.sl.r_6 routerRun.sl.r_5 routerRun.sl.r_4 routerRun.sl.r_3 routerRun.sl.r_2 routerRun.sl.r_1 routerRun.sl.r
    rw [e0, e1, e2]; rfl
  skip
  · iapply (pt_stored c cc0_stg8_0 f8 _ _ (oLbl f0 f1 f2) ?hw8); rotate_left; (· iexact H8)
    delta routerRun.sl.r_20 routerRun.sl.r_19 routerRun.sl.r_18 routerRun.sl.r_17 routerRun.sl.r_16 routerRun.sl.r_15 routerRun.sl.r_14 routerRun.sl.r_13 routerRun.sl.r_12 routerRun.sl.r_11 routerRun.sl.r_10 routerRun.sl.r_9 routerRun.sl.r_8 routerRun.sl.r_7 routerRun.sl.r_6 routerRun.sl.r_5 routerRun.sl.r_4 routerRun.sl.r_3 routerRun.sl.r_2 routerRun.sl.r_1 routerRun.sl.r
    rw [e0, e1, e2]; rfl

end Cert.Proof.RunI

end
-- ==== Proof.RunI.Ffn.lean ====
/-
  The expert kernel's body at one block of 256 sorted rows, in its three cases: the block is not in use and nothing
  is stored; the first block, which fills the row-number scratch and stores its contribution; a later block, which adds
  its contribution to what the output holds.
-/
module

public import proofs.«01_k».proof.Proof.RunI.Router
public import Idealize.ShloMosaic.Lib.WholeRead

@[expose] public section

set_option maxRecDepth 16384

noncomputable section

namespace Cert.Proof.RunI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A staging buffer owned at what it reads is its points-to at those contents. -/
theorem owns_open (c : Dev nD) {S : Shape} {e : EltTy} {sp : Space} (M : Memref sig .tc sp S e) (h : M.IsWhole) (X : S.Idx → Elt F e) :
    (owns (c : Thread nD τ) M fullShare X : sProp 𝕄) ⊢ pt c M (h.unread X) := by
  unfold owns
  rw [h.set_eq_univ]
  iintro ⟨%f, %hf, H⟩
  rw [h.eq_unread hf]
  iexact H

/-- And back. -/
theorem owns_close (c : Dev nD) {S : Shape} {e : EltTy} {sp : Space} (M : Memref sig .tc sp S e) (h : M.IsWhole) (X : S.Idx → Elt F e) :
    pt c M (h.unread X) ⊢ (owns (c : Thread nD τ) M fullShare X : sProp 𝕄) := by
  unfold owns
  rw [h.set_eq_univ]
  iintro H
  iexists _
  isplitr; · ipureintro; exact h.read_unread X
  iexact H

/-- Row `0` of a two-row table. -/
def row0 {e : EltTy} (d : S2x2048.Idx → Elt F e) : S1x2048.Idx → Elt F e :=
  View.ld d (Rect.unit (s := S2x2048) ![0, 0] S1x2048.size inb_S2x2048_S1x2048_0_0)
/-- Row `1` of a two-row table. -/
def row1 {e : EltTy} (d : S2x2048.Idx → Elt F e) : S1x2048.Idx → Elt F e :=
  View.ld d (Rect.unit (s := S2x2048) ![1, 0] S1x2048.size inb_S2x2048_S1x2048_1_0)
/-- The first half of an expert's hidden bias. -/
def b1lo (b : FVec F S1x1x2048 .f32) : FVec F S1x1x1024 .f32 :=
  View.ld (Val := Elt F) (e' := .f32) b (Rect.unit (s := S1x1x2048) ![0, 0, 0] S1x1x1024.size inb_S1x1x2048_S1x1x1024_0_0_0)
/-- The second half. -/
def b1hi (b : FVec F S1x1x2048 .f32) : FVec F S1x1x1024 .f32 :=
  View.ld (Val := Elt F) (e' := .f32) b (Rect.unit (s := S1x1x2048) ![0, 0, 1024] S1x1x1024.size inb_S1x1x2048_S1x1x1024_0_0_1024)

/-- The first sorted row of the block at grid point `i`. -/
def base (i : grid1.Coords) : BitVec 32 := Scalar.muli (BitVec.ofNat 32 (i 0).val) 256#32

/-- What the block at grid point `i` adds to the output, over the tokens, the two tables and the owner expert's weights. -/
def contrib (i : grid1.Coords) (x : FVec F S2048x1024 .f32) (dT : IVec S2x2048 32) (wT : FVec F S2x2048 .f32)
    (w1a w1b : FVec F S1x1024x1024 .f32) (b1 : FVec F S1x1x2048 .f32) (w2a w2b : FVec F S1x1024x1024 .f32) (b2 : FVec F S1x1x1024 .f32) :
    FVec F S2048x1024 .f32 :=
  k1_pay8 (F := F) (k1_pay3 (F := F) (base i) k1_pay2 (row0 (F := F) (e := .i32) dT)) (k1_pay4 (F := F) (base i) k1_pay2 (row1 (F := F) (e := .i32) dT))
    (k1_pay6 (base i) k1_pay2 (row0 (F := F) (e := .i32) dT) (row1 (F := F) (e := .i32) dT) x w1a (b1lo b1))
    (k1_pay7 (base i) k1_pay2 (row0 (F := F) (e := .i32) dT) (row1 (F := F) (e := .i32) dT) x w1b)
    (b1hi b1) w2a w2b b2 (row0 (F := F) (e := .f32) wT) (row1 (F := F) (e := .f32) wT)

/-- A store of all of a whole memref leaves it at the contents that read the stored vector. -/
theorem pt_full (c : Dev nD) {S : Shape} {e : EltTy} {sp : Space} (M : Memref sig .tc sp S e) (h : M.IsWhole) (f : Bf (F := F) c M)
    {off : Fin S.rank → ℕ} (inb : ∀ a, off a + S.size a ≤ S.size a) (w w' : S.Idx → Elt F e) (hw : w = w') :
    (pt c M (M.view.writes (Elt F) f [⟨Rect.unit off S.size inb, w⟩]) : sProp 𝕄) ⊢ pt c M (h.unread w') :=
  Entails.of_eq (congrArg (fun g => (pt c M g : sProp 𝕄)) (h.eq_unread ((View.read_writes_full M.view f inb w []).trans hw)))

/-- A load of all of a whole memref reads its contents. -/
theorem readAt_full_unread {S : Shape} {e : EltTy} {sp : Space} (M : Memref sig .tc sp S e) (h : M.IsWhole) (X : S.Idx → Elt F e)
    {off : Fin S.rank → ℕ} (inb : ∀ a, off a + S.size a ≤ S.size a) :
    M.view.readAt (Elt F) (Rect.unit off S.size inb).toLoadRect (h.unread X) = X :=
  (View.readAt_full M.view _ inb).trans (h.read_unread X)

/-- A load of part of a whole memref reads that part of its contents. -/
theorem readAt_part_unread {S : Shape} {e : EltTy} {sp : Space} (M : Memref sig .tc sp S e) (h : M.IsWhole) (X : S.Idx → Elt F e)
    (R : Rect S) : M.view.readAt (Elt F) R.toLoadRect (h.unread X) = View.ld X R :=
  (View.readAt_eq_ld M.view _ R).trans (congrArg (View.ld · R) (h.read_unread X))

section Body

variable (c : Dev nD) (i : grid1.Coords)
  (M0 : Memref sig .tc .vmem S2048x1024 .f32) (h0 : M0.IsWhole)
  (M1 : Memref sig .tc .vmem S2x2048 .i32) (h1 : M1.IsWhole)
  (M2 : Memref sig .tc .vmem S2x2048 .f32) (h2 : M2.IsWhole)
  (M3 : Memref sig .tc .vmem S1x1024x1024 .f32) (h3 : M3.IsWhole)
  (M4 : Memref sig .tc .vmem S1x1024x1024 .f32) (h4 : M4.IsWhole)
  (M5 : Memref sig .tc .vmem S1x1x2048 .f32) (h5 : M5.IsWhole)
  (M6 : Memref sig .tc .vmem S1x1024x1024 .f32) (h6 : M6.IsWhole)
  (M7 : Memref sig .tc .vmem S1x1024x1024 .f32) (h7 : M7.IsWhole)
  (M8 : Memref sig .tc .vmem S1x1x1024 .f32) (h8 : M8.IsWhole)
  (M9 : Memref sig .tc .vmem S2048x1024 .f32) (h9 : M9.IsWhole)

/-- A block not in use: nothing is stored. -/
theorem ffnIdle  (X0 : S2048x1024.Idx → Elt F .f32) (X1 : S2x2048.Idx → Elt F .i32) (X2 : S2x2048.Idx → Elt F .f32) (X3 : S1x1024x1024.Idx → Elt F .f32) (X4 : S1x1024x1024.Idx → Elt F .f32) (X5 : S1x1x2048.Idx → Elt F .f32) (X6 : S1x1024x1024.Idx → Elt F .f32) (X7 : S1x1024x1024.Idx → Elt F .f32) (X8 : S1x1x1024.Idx → Elt F .f32)
    (u : Bf (F := F) c (Memref.whole main_v6)) (f9 : Bf (F := F) c M9) (fs : Bf (F := F) c (Memref.whole cc1_scratch0)) (hu : ∀ j, ¬ k1_cond1 i (u j) = 1#1)
    (E : Set ℕ) (Q : PUnit → sProp 𝕄) :
    iprop(pt c M0 (h0.unread X0)
        ∗ pt c M1 (h1.unread X1)
        ∗ pt c M2 (h2.unread X2)
        ∗ pt c M3 (h3.unread X3)
        ∗ pt c M4 (h4.unread X4)
        ∗ pt c M5 (h5.unread X5)
        ∗ pt c M6 (h6.unread X6)
        ∗ pt c M7 (h7.unread X7)
        ∗ pt c M8 (h8.unread X8) ∗ pt c M9 f9 ∗ pt c (Memref.whole cc1_scratch0) fs ∗ pt c (Memref.whole main_v6) u ∗
        (iprop(pt c M0 (h0.unread X0)
        ∗ pt c M1 (h1.unread X1)
        ∗ pt c M2 (h2.unread X2)
        ∗ pt c M3 (h3.unread X3)
        ∗ pt c M4 (h4.unread X4)
        ∗ pt c M5 (h5.unread X5)
        ∗ pt c M6 (h6.unread X6)
        ∗ pt c M7 (h7.unread X7)
        ∗ pt c M8 (h8.unread X8) ∗ pt c M9 f9 ∗ pt c (Memref.whole cc1_scratch0) fs ∗ pt c (Memref.whole main_v6) u) -∗ Q ⟨⟩))
      ⊢ wp frame (wpE (defs₀ (F := F)) Variants.none c none) E
        (cc1__ffn_body i (Memref.whole main_v5) (Memref.isWhole_whole _) (Memref.whole main_v6) (Memref.isWhole_whole _) M0 h0 M1 h1 M2 h2 M3 h3 M4 h4 M5 h5 M6 h6 M7 h7 M8 h8 M9 h9 (Memref.whole cc1_scratch0) (Memref.isWhole_whole _)) Q := by
  rw [cc1__ffn_body_eq_skeleton]
  iintro ⟨H0, H1, H2, H3, H4, H5, H6, H7, H8, H9, Hs, Hu, Hk⟩
  sl_unfold [cc1__ffn_body_skel]
  sl_exec (disch := exact hu _)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hs]; · iexact Hs
  iexact Hu

/-- The first block. -/
theorem ffnFirst  (X0 : S2048x1024.Idx → Elt F .f32) (X1 : S2x2048.Idx → Elt F .i32) (X2 : S2x2048.Idx → Elt F .f32) (X3 : S1x1024x1024.Idx → Elt F .f32) (X4 : S1x1024x1024.Idx → Elt F .f32) (X5 : S1x1x2048.Idx → Elt F .f32) (X6 : S1x1024x1024.Idx → Elt F .f32) (X7 : S1x1024x1024.Idx → Elt F .f32) (X8 : S1x1x1024.Idx → Elt F .f32)
    (u : Bf (F := F) c (Memref.whole main_v6)) (f9 : Bf (F := F) c M9) (fs : Bf (F := F) c (Memref.whole cc1_scratch0)) (hu : ∀ j, k1_cond1 i (u j) = 1#1) (hc3 : k1_cond3 i = 1#1) (hc4 : ¬ k1_cond4 i = 1#1)
    (E : Set ℕ) (Q : PUnit → sProp 𝕄) :
    iprop(pt c M0 (h0.unread X0)
        ∗ pt c M1 (h1.unread X1)
        ∗ pt c M2 (h2.unread X2)
        ∗ pt c M3 (h3.unread X3)
        ∗ pt c M4 (h4.unread X4)
        ∗ pt c M5 (h5.unread X5)
        ∗ pt c M6 (h6.unread X6)
        ∗ pt c M7 (h7.unread X7)
        ∗ pt c M8 (h8.unread X8) ∗ pt c M9 f9 ∗ pt c (Memref.whole cc1_scratch0) fs ∗ pt c (Memref.whole main_v6) u ∗
        (iprop(pt c M0 (h0.unread X0)
        ∗ pt c M1 (h1.unread X1)
        ∗ pt c M2 (h2.unread X2)
        ∗ pt c M3 (h3.unread X3)
        ∗ pt c M4 (h4.unread X4)
        ∗ pt c M5 (h5.unread X5)
        ∗ pt c M6 (h6.unread X6)
        ∗ pt c M7 (h7.unread X7)
        ∗ pt c M8 (h8.unread X8) ∗ pt c M9 (h9.unread (contrib i X0 X1 X2 X3 X4 X5 X6 X7 X8)) ∗ pt c (Memref.whole cc1_scratch0) (k1_pay2 : IVec S256x2048 32) ∗ pt c (Memref.whole main_v6) u) -∗ Q ⟨⟩))
      ⊢ wp frame (wpE (defs₀ (F := F)) Variants.none c none) E
        (cc1__ffn_body i (Memref.whole main_v5) (Memref.isWhole_whole _) (Memref.whole main_v6) (Memref.isWhole_whole _) M0 h0 M1 h1 M2 h2 M3 h3 M4 h4 M5 h5 M6 h6 M7 h7 M8 h8 M9 h9 (Memref.whole cc1_scratch0) (Memref.isWhole_whole _)) Q := by
  rw [cc1__ffn_body_eq_skeleton]
  iintro ⟨H0, H1, H2, H3, H4, H5, H6, H7, H8, H9, Hs, Hu, Hk⟩
  sl_unfold [cc1__ffn_body_skel, k1_part1_eq_skeleton, k1_part2_eq_skeleton]
  sl_exec (disch := first | exact hc3 | exact hc4 | exact hu _)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (pt_full c M9 h9 _ _ _ (contrib i X0 X1 X2 X3 X4 X5 X6 X7 X8) ?hw); rotate_left; (· iexact H9)
    delta ffnFirst.sl.r_4 ffnFirst.sl.r_3 ffnFirst.sl.r_2 ffnFirst.sl.r_1
    rw [readAt_full_unread M0 h0, readAt_full_unread M3 h3, readAt_full_unread M4 h4, readAt_full_unread M6 h6, readAt_full_unread M7 h7,
      readAt_full_unread M8 h8]
    simp only [readAt_part_unread]
    rw [show ffnFirst.sl.v8 (F := F) = k1_pay2 from View.readCov_full (View.whole cc1_scratch0) _ _ _ []]
    rfl
  isplitl [Hs]
  · iapply (pt_stored c cc1_scratch0 fs _ _ _ ?hs); rotate_left; (· iexact Hs)
    rfl
  iexact Hu

/-- A later block. -/
theorem ffnLater  (X0 : S2048x1024.Idx → Elt F .f32) (X1 : S2x2048.Idx → Elt F .i32) (X2 : S2x2048.Idx → Elt F .f32) (X3 : S1x1024x1024.Idx → Elt F .f32) (X4 : S1x1024x1024.Idx → Elt F .f32) (X5 : S1x1x2048.Idx → Elt F .f32) (X6 : S1x1024x1024.Idx → Elt F .f32) (X7 : S1x1024x1024.Idx → Elt F .f32) (X8 : S1x1x1024.Idx → Elt F .f32)
    (u : Bf (F := F) c (Memref.whole main_v6)) (A : FVec F S2048x1024 .f32)  (hu : ∀ j, k1_cond1 i (u j) = 1#1) (hc3 : ¬ k1_cond3 i = 1#1) (hc4 : k1_cond4 i = 1#1)
    (E : Set ℕ) (Q : PUnit → sProp 𝕄) :
    iprop(pt c M0 (h0.unread X0)
        ∗ pt c M1 (h1.unread X1)
        ∗ pt c M2 (h2.unread X2)
        ∗ pt c M3 (h3.unread X3)
        ∗ pt c M4 (h4.unread X4)
        ∗ pt c M5 (h5.unread X5)
        ∗ pt c M6 (h6.unread X6)
        ∗ pt c M7 (h7.unread X7)
        ∗ pt c M8 (h8.unread X8) ∗ pt c M9 (h9.unread A) ∗ pt c (Memref.whole cc1_scratch0) (k1_pay2 : IVec S256x2048 32) ∗ pt c (Memref.whole main_v6) u ∗
        (iprop(pt c M0 (h0.unread X0)
        ∗ pt c M1 (h1.unread X1)
        ∗ pt c M2 (h2.unread X2)
        ∗ pt c M3 (h3.unread X3)
        ∗ pt c M4 (h4.unread X4)
        ∗ pt c M5 (h5.unread X5)
        ∗ pt c M6 (h6.unread X6)
        ∗ pt c M7 (h7.unread X7)
        ∗ pt c M8 (h8.unread X8) ∗ pt c M9 (h9.unread (k1_pay1 (contrib i X0 X1 X2 X3 X4 X5 X6 X7 X8) A)) ∗ pt c (Memref.whole cc1_scratch0) (k1_pay2 : IVec S256x2048 32) ∗ pt c (Memref.whole main_v6) u) -∗ Q ⟨⟩))
      ⊢ wp frame (wpE (defs₀ (F := F)) Variants.none c none) E
        (cc1__ffn_body i (Memref.whole main_v5) (Memref.isWhole_whole _) (Memref.whole main_v6) (Memref.isWhole_whole _) M0 h0 M1 h1 M2 h2 M3 h3 M4 h4 M5 h5 M6 h6 M7 h7 M8 h8 M9 h9 (Memref.whole cc1_scratch0) (Memref.isWhole_whole _)) Q := by
  rw [cc1__ffn_body_eq_skeleton]
  iintro ⟨H0, H1, H2, H3, H4, H5, H6, H7, H8, H9, Hs, Hu, Hk⟩
  sl_unfold [cc1__ffn_body_skel, k1_part1_eq_skeleton, k1_part2_eq_skeleton]
  sl_exec (disch := first | exact hc3 | exact hc4 | exact hu _)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (pt_full c M9 h9 _ _ _ (k1_pay1 (contrib i X0 X1 X2 X3 X4 X5 X6 X7 X8) A) ?hw); rotate_left; (· iexact H9)
    delta ffnLater.sl.r_5 ffnLater.sl.r_4 ffnLater.sl.r_3 ffnLater.sl.r_2 ffnLater.sl.r_1
    rw [readAt_full_unread M0 h0, readAt_full_unread M3 h3, readAt_full_unread M4 h4, readAt_full_unread M6 h6, readAt_full_unread M7 h7,
      readAt_full_unread M8 h8, readAt_full_unread M9 h9]
    simp only [readAt_part_unread]
    rw [show View.readAt (Elt F) (Memref.whole cc1_scratch0).view (Rect.unit ![0, 0] S256x2048.size inb_S256x2048_S256x2048_0_0).toLoadRect
      (k1_pay2 : IVec S256x2048 32) = k1_pay2 from readAt_all cc1_scratch0 _ _]
    rfl
  isplitl [Hs]; · iexact Hs
  iexact Hu

end Body

end Cert.Proof.RunI

end
-- ==== Proof.RunI.State.lean ====
/-
  What the buffers hold between the items of the program: the launch contents, then each host stretch applied and
  each kernel's outputs written; and the two prefetched tables of the second kernel, whose entries name experts.
-/
module

public import proofs.«01_k».proof.Proof.RunI.Router
public import Idealize.ShloMosaic.Lib.Claim

@[expose] public section

set_option maxRecDepth 16384

noncomputable section

namespace Cert.Proof.RunI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- The tokens' rows as the router reads them. -/
abbrev inX (c : Dev nD) : FVec F S2048x1024 .f32 := V1 m c main_v0
/-- The gate's weights as the router reads them. -/
abbrev inG (c : Dev nD) : FVec F S1024x8 .f32 := V1 m c main_arg1
/-- The gate's bias as the router reads it. -/
abbrev inB (c : Dev nD) : FVec F S1x8 .f32 := V1 m c main_v1

/-- Core `c`'s buffers after the router: its six outputs at their payloads. -/
def W2 (c : Dev nD) : Valuation τ sig (Elt F) :=
  Function.update (Function.update (Function.update (Function.update (Function.update (Function.update (V1 m c)
    main_v2_0 (oDst (inX m c) (inG m c) (inB m c))) main_v2_1 (oWw (inX m c) (inG m c) (inB m c)))
    main_v2_2 (oBe (inX m c) (inG m c) (inB m c))) main_v2_3 (oUsed (inX m c) (inG m c) (inB m c)))
    main_v2_4 (oUsage (inX m c) (inG m c) (inB m c))) main_v2_5 (oLbl (inX m c) (inG m c) (inB m c))
/-- Core `c`'s buffers after the second host stretch. -/
def W3 (c : Dev nD) : Valuation τ sig (Elt F) := StableHlo.after hostOps1 (W2 m c)
/-- Core `c`'s buffers after the second kernel, which leaves `o` in its output. -/
def W4 (c : Dev nD) (o : FVec F S2048x1024 .f32) : Valuation τ sig (Elt F) := Function.update (W3 m c) main_v9 o
/-- Core `c`'s buffers at the end. -/
def W5 (c : Dev nD) (o : FVec F S2048x1024 .f32) : Valuation τ sig (Elt F) := StableHlo.after hostOps2 (W4 m c o)

/-- The router changes only its six outputs. -/
theorem W2_of (c : Dev nD) (r : Ref sig .tc) (h : r ∉ ([main_v2_0, main_v2_1, main_v2_2, main_v2_3, main_v2_4, main_v2_5] : List (Ref sig .tc))) :
    W2 m c r = V1 m c r := by
  have hne : ∀ b ∈ ([main_v2_0, main_v2_1, main_v2_2, main_v2_3, main_v2_4, main_v2_5] : List (Ref sig .tc)),
      (Proc.devRef .tc r : DevRef τ sig) ≠ Proc.devRef .tc b :=
    fun b hb => StableHlo.devRef_ne_of_ne fun e => h (e ▸ hb)
  unfold W2
  rw [Function.update_of_ne (hne _ (by simp)), Function.update_of_ne (hne _ (by simp)), Function.update_of_ne (hne _ (by simp)),
    Function.update_of_ne (hne _ (by simp)), Function.update_of_ne (hne _ (by simp)), Function.update_of_ne (hne _ (by simp))]
/-- The second host stretch changes only what it writes. -/
theorem W3_of (c : Dev nD) (r : Ref sig .tc) (h : r ∉ hostOps1_W) : W3 m c r = W2 m c r :=
  StableHlo.after_of_writes_sub hostOps1 _ hostOps1_writes h
/-- The second kernel changes only its output. -/
theorem W4_of (c : Dev nD) (o : FVec F S2048x1024 .f32) (r : Ref sig .tc) (h : r ≠ main_v9) : W4 m c o r = W3 m c r :=
  Function.update_of_ne (StableHlo.devRef_ne_of_ne h) _ _
/-- The second kernel's output holds `o`. -/
theorem W4_out (c : Dev nD) (o : FVec F S2048x1024 .f32) : W4 m c o main_v9 = o := Function.update_self _ _ _
/-- The last host stretch changes only what it writes. -/
theorem W5_of (c : Dev nD) (o : FVec F S2048x1024 .f32) (r : Ref sig .tc) (h : r ∉ hostOps2_W) : W5 m c o r = W4 m c o r :=
  StableHlo.after_of_writes_sub hostOps2 _ hostOps2_writes h
/-- A buffer no item writes ends as launched. -/
theorem W5_kept (c : Dev nD) (o : FVec F S2048x1024 .f32) (r : Ref sig .tc) (h2 : r ∉ hostOps2_W) (h9 : r ≠ main_v9) (h1 : r ∉ hostOps1_W)
    (hr : r ∉ ([main_v2_0, main_v2_1, main_v2_2, main_v2_3, main_v2_4, main_v2_5] : List (Ref sig .tc))) (h0 : r ∉ hostOps0_W) :
    W5 m c o r = m ((c : Thread nD τ).loc r) :=
  (W5_of m c o r h2).trans <| (W4_of m c o r h9).trans <| (W3_of m c r h1).trans <| (W2_of m c r hr).trans <| (V1_of m c r h0).trans rfl

/-- The router's outputs as the valuation after it holds them. -/
theorem W2_dst (c : Dev nD) : W2 m c main_v2_0 = oDst (inX m c) (inG m c) (inB m c) := by
  unfold W2
  repeat rw [Function.update_of_ne (StableHlo.devRef_ne_of_ne (by decide))]
  exact Function.update_self _ _ _
@[inherit_doc W2_dst] theorem W2_ww (c : Dev nD) : W2 m c main_v2_1 = oWw (inX m c) (inG m c) (inB m c) := by
  unfold W2
  repeat rw [Function.update_of_ne (StableHlo.devRef_ne_of_ne (by decide))]
  exact Function.update_self _ _ _
@[inherit_doc W2_dst] theorem W2_be (c : Dev nD) : W2 m c main_v2_2 = oBe (inX m c) (inG m c) (inB m c) := by
  unfold W2
  repeat rw [Function.update_of_ne (StableHlo.devRef_ne_of_ne (by decide))]
  exact Function.update_self _ _ _
@[inherit_doc W2_dst] theorem W2_used (c : Dev nD) : W2 m c main_v2_3 = oUsed (inX m c) (inG m c) (inB m c) := by
  unfold W2
  repeat rw [Function.update_of_ne (StableHlo.devRef_ne_of_ne (by decide))]
  exact Function.update_self _ _ _
@[inherit_doc W2_dst] theorem W2_usage (c : Dev nD) : W2 m c main_v2_4 = oUsage (inX m c) (inG m c) (inB m c) := by
  unfold W2
  repeat rw [Function.update_of_ne (StableHlo.devRef_ne_of_ne (by decide))]
  exact Function.update_self _ _ _
@[inherit_doc W2_dst] theorem W2_lbl (c : Dev nD) : W2 m c main_v2_5 = oLbl (inX m c) (inG m c) (inB m c) :=
  Function.update_self _ _ _

/-! ## The tables -/

/-- The experts owning the blocks, as the second kernel's first table. -/
abbrev tabBe (c : Dev nD) : IVec S24 32 := shapeCast S24 (oBe (inX m c) (inG m c) (inB m c)) shapeCasts_S24x1_S24
/-- The number of blocks in use, as the second kernel's second table. -/
abbrev tabUsed (c : Dev nD) : IVec S1 32 := shapeCast S1 (oUsed (inX m c) (inG m c) (inB m c)) shapeCasts_S1x1_S1

/-- A number clamped between 0 and 7 is at most 7. -/
theorem clamp_le (a : BitVec 32) : (IntOp.minsi 7#32 (IntOp.maxsi 0#32 a)).toNat ≤ 7 := by
  have key : ∀ b : BitVec 32, 0 ≤ b.toInt → (IntOp.minsi 7#32 b).toNat ≤ 7 := fun b hb => by
    unfold IntOp.minsi
    split
    · decide
    · rename_i h
      simp only [BitVec.slt, decide_eq_true_eq, not_lt] at h
      rw [BitVec.toInt_eq_toNat_cond] at h hb
      have e7 : (7#32 : BitVec 32).toInt = 7 := by decide
      have := b.isLt
      rw [e7] at h
      split at h <;> omega
  refine key _ ?_
  unfold IntOp.maxsi
  split
  · decide
  · rename_i h
    simpa only [BitVec.slt, decide_eq_true_eq, not_lt, show (0#32 : BitVec 32).toInt = 0 from by decide] using h

/-- Every block's owner is one of the eight experts. -/
theorem tabBe_le (c : Dev nD) (j : S24.Idx) : (tabBe m c j).toNat ≤ 7 := by
  unfold tabBe oBe k0_pay44
  exact clamp_le _

/-- The tables' contents on core `c` when the second kernel is entered. -/
def tabs (c : Dev nD) : pre1.Contents (Elt F) := fun k => W3 m c (Proc.devRef .tc (pre1.ref k))

/-- What the second host stretch leaves in the buffers it writes. -/
theorem W3_dstT (c : Dev nD) : W3 m c main_v3 = transpose S2x2048 [1, 0] (oDst (inX m c) (inG m c) (inB m c)) transposes_S2048x2_S2x2048_1_0 := by
  rw [← W2_dst]; unfold W3
  simp only [StableHlo.after_cons, StableHlo.after_nil]
  after_results_loop
  rfl
@[inherit_doc W3_dstT] theorem W3_wwT (c : Dev nD) : W3 m c main_v4 = transpose S2x2048 [1, 0] (oWw (inX m c) (inG m c) (inB m c)) transposes_S2048x2_S2x2048_1_0 := by
  rw [← W2_ww]; unfold W3
  simp only [StableHlo.after_cons, StableHlo.after_nil]
  after_results_loop
  rfl
@[inherit_doc W3_dstT] theorem W3_be (c : Dev nD) : W3 m c main_v5 = tabBe m c := by
  unfold tabBe; rw [← W2_be]; unfold W3
  simp only [StableHlo.after_cons, StableHlo.after_nil]
  after_results_loop
  rfl
@[inherit_doc W3_dstT] theorem W3_used (c : Dev nD) : W3 m c main_v6 = tabUsed m c := by
  unfold tabUsed; rw [← W2_used]; unfold W3
  simp only [StableHlo.after_cons, StableHlo.after_nil]
  after_results_loop
  rfl
@[inherit_doc W3_dstT] theorem W3_b1 (c : Dev nD) :
    W3 m c main_v7 = shapeCast S8x1x2048 (m ((c : Thread nD τ).loc main_arg4) : FVec F S8x2048 .f32) shapeCasts_S8x2048_S8x1x2048 := by
  rw [← show W2 m c main_arg4 = m ((c : Thread nD τ).loc main_arg4) from (W2_of m c main_arg4 (by decide)).trans (V1_of m c main_arg4 (by decide))]
  unfold W3
  simp only [StableHlo.after_cons, StableHlo.after_nil]
  after_results_loop
  rfl
@[inherit_doc W3_dstT] theorem W3_b2 (c : Dev nD) :
    W3 m c main_v8 = shapeCast S8x1x1024 (m ((c : Thread nD τ).loc main_arg6) : FVec F S8x1024 .f32) shapeCasts_S8x1024_S8x1x1024 := by
  rw [← show W2 m c main_arg6 = m ((c : Thread nD τ).loc main_arg6) from (W2_of m c main_arg6 (by decide)).trans (V1_of m c main_arg6 (by decide))]
  unfold W3
  simp only [StableHlo.after_cons, StableHlo.after_nil]
  after_results_loop
  rfl

/-- The first table is the blocks' owners. -/
theorem tabs_zero (c : Dev nD) : tabs m c 0 = tabBe m c := W3_be m c
/-- The second table is the number of blocks in use. -/
theorem tabs_one (c : Dev nD) : tabs m c 1 = tabUsed m c := W3_used m c

/-- If the first table's entries name experts, every block the second kernel's index maps name lies inside its array. -/
theorem ok_of (pf : pre1.Contents (Elt F))
    (h : ∀ i : grid1.Coords, (pf.at 0 (Rect.unit (s := S24) (k1_off1 i) S1.size (k1_off1_inb i)) numel1_S1 : BitVec 32).toNat ≤ 7) : ok1 pf := by
  unfold ok1
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩⟩
  all_goals
    have hi := h i
    fin_cases a
    · exact (Nat.mul_le_mul_right _ (Nat.succ_le_succ hi))
    · exact Nat.le_of_ble_eq_true rfl
    · exact Nat.le_of_ble_eq_true rfl

/-- Every block the second kernel's index maps name lies inside its array. -/
theorem tabs_ok (c : Dev nD) : ok1 (tabs m c) :=
  ok_of _ fun i => by
    show (tabs m c 0 _).toNat ≤ 7
    rw [tabs_zero]; exact tabBe_le m c _

/-- The admissible tables the second kernel runs at. -/
def adm1 (c : Dev nD) : (pcfg1 (F := F)).Adm := ⟨tabs m c, tabs_ok m c⟩

/-- The program runs on one device. -/
theorem dev_eq (c : Dev nD) : c = 0 := Subsingleton.elim _ _

/-- The tables' contents of both kernels: the router has none. -/
abbrev adm : (p : Fin 2) → (pcfgs (F := F) p).Adm
  | ⟨0, _⟩ => cfg0.toPCfg_adm
  | ⟨1, _⟩ => adm1 m 0

end Cert.Proof.RunI

end
-- ==== Proof.RunI.Region1.lean ====
/-
  The second kernel as a region of the program: what its windows hold at each grid point, the contents its output
  accumulates over the blocks in use, and its body obligation.
-/
module

public import proofs.«01_k».proof.Proof.RunI.Ffn
public import proofs.«01_k».proof.Proof.RunI.State
public import Idealize.ShloMosaic.Lib.Pipeline.DatRel
public import Idealize.ShloMosaic.Lib.Pipeline.ArrRel
public import Idealize.ShloMosaic.Lib.Pipeline.FrameBody
public import Idealize.ShloMosaic.Lib.Pipeline.ValueKit.Geometry

@[expose] public section

set_option maxRecDepth 16384

noncomputable section

namespace Cert.Proof.RunI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
open Idealize.ShloMosaic.Pipeline (Dat RDat Cfg Window BodyObligationRel)

local notation "𝕄" => MT nD τ sig Unit (Elt F) ℕ UU ℕ

variable (A : (pcfg1 (F := F)).Adm) (c : Dev nD) (V : (b : Ref sig .tc) → Buf (Elt F) ((c : Thread nD τ).loc b))

/-- The block of window `w`'s array at point `t`, over the contents `V`. -/
def blk1 (w : Fin 10) (t : Fin (cfg1 A).N) : (((cfg1 A).win w).xblock (grid1.coords t)).Idx → Elt F ((cfg1 A).win w).elt :=
  (((cfg1 A).win w).blk t).view.read (Elt F) (V (Pipeline.arrRef spec1 w))

/-- The block at point `t` is in use. -/
def act (t : Fin (cfg1 A).N) : Prop := ∀ j, k1_cond1 (grid1.coords t) (A.1 1 j) = 1#1

/-- What the block at point `t` adds to the output. -/
def con (t : Fin (cfg1 A).N) : FVec F S2048x1024 .f32 :=
  contrib (grid1.coords t) (blk1 A c V 0 t) (blk1 A c V 1 t) (blk1 A c V 2 t) (blk1 A c V 3 t) (blk1 A c V 4 t) (blk1 A c V 5 t)
    (blk1 A c V 6 t) (blk1 A c V 7 t) (blk1 A c V 8 t)

/-- The first point. -/
abbrev p0 : Fin (cfg1 A).N := ⟨0, Nat.lt_of_lt_of_eq (by decide : 0 < 24) N_1.symm⟩

open Classical in
/-- The output accumulated over the blocks in use up to point `n`. -/
def acc : ℕ → FVec F S2048x1024 .f32
  | 0 => con A c V (p0 A)
  | n + 1 => if h : n + 1 < (cfg1 A).N then (if act A ⟨n + 1, h⟩ then k1_pay1 (con A c V ⟨n + 1, h⟩) (acc n) else acc n) else acc n

/-- Window 9, the output, is held to a relation only. -/
abbrev fgt1 : Fin 10 → Bool := fun w => match w with | 9 => true | _ => false
/-- If the first block is in use the output holds what has accumulated. -/
def rel1 (w : Fin 10) (t : Fin (cfg1 A).N) (X : ((cfg1 A).win w).block.Idx → Elt F ((cfg1 A).win w).elt) : Prop :=
  match w, X with
  | ⟨9, _⟩, X => act A (p0 A) → X = acc A c V t.val
  | _, _ => True

/-- The scoped buffers the second kernel neither stages nor uses, held at something. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f))

/-- The scratch buffer before point `n`: after the first block in use it holds the row numbers. -/
def scr (c : Dev nD) (n : ℕ) : sProp 𝕄 :=
  iprop(∃ fs : Bf (F := F) c (Memref.whole cc1_scratch0), ⌜n ≠ 0 → act A (p0 A) → fs = (k1_pay2 : IVec S256x2048 32)⌝ ∗ pt c (Memref.whole cc1_scratch0) fs)

/-- The two tables, held whole. -/
def tables (c : Dev nD) : sProp 𝕄 :=
  iprop(pt c (Memref.whole main_v5) (A.1 0) ∗ pt c (Memref.whole main_v6) (A.1 1))

/-- The second kernel's proof data on core `c`, entered at the contents `V`. -/
def dat1 : Dat τ (Elt F) Unit ℕ UU ℕ (cfg1 A) c where
  A w := V (Pipeline.arrRef spec1 w)
  after w t := match w with
    | ⟨0, _⟩ => blk1 A c V 0 t
    | ⟨1, _⟩ => blk1 A c V 1 t
    | ⟨2, _⟩ => blk1 A c V 2 t
    | ⟨3, _⟩ => blk1 A c V 3 t
    | ⟨4, _⟩ => blk1 A c V 4 t
    | ⟨5, _⟩ => blk1 A c V 5 t
    | ⟨6, _⟩ => blk1 A c V 6 t
    | ⟨7, _⟩ => blk1 A c V 7 t
    | ⟨8, _⟩ => blk1 A c V 8 t
    | ⟨9, _⟩ => acc A c V t.val
  Φ t := iprop(tables A c ∗ others c ∗ scr A c t.val)
  q w := Pipeline.shareOf spec1 w
  owed _ := 0

/-- Input window `w`'s staging buffer holds its block when the body runs. -/
theorem before1_0 (t : Fin (cfg1 A).N) (d) : (dat1 A c V).before 0 t d = blk1 A c V 0 t :=
  Pipeline.Dat.before_in_eq_fetched (dat1 A c V) 0 rfl (fun _ => rfl) (fun _ _ _ => rfl) (fun _ => rfl) t d
@[inherit_doc before1_0] theorem before1_1 (t : Fin (cfg1 A).N) (d) : (dat1 A c V).before 1 t d = blk1 A c V 1 t :=
  Pipeline.Dat.before_in_eq_fetched (dat1 A c V) 1 rfl (fun _ => rfl) (fun _ _ _ => rfl) (fun _ => rfl) t d
@[inherit_doc before1_0] theorem before1_2 (t : Fin (cfg1 A).N) (d) : (dat1 A c V).before 2 t d = blk1 A c V 2 t :=
  Pipeline.Dat.before_in_eq_fetched (dat1 A c V) 2 rfl (fun _ => rfl) (fun _ _ _ => rfl) (fun _ => rfl) t d
@[inherit_doc before1_0] theorem before1_3 (t : Fin (cfg1 A).N) (d) : (dat1 A c V).before 3 t d = blk1 A c V 3 t :=
  Pipeline.Dat.before_in_eq_fetched (dat1 A c V) 3 rfl (fun _ => rfl) (fun _ _ _ => rfl) (fun _ => rfl) t d
@[inherit_doc before1_0] theorem before1_4 (t : Fin (cfg1 A).N) (d) : (dat1 A c V).before 4 t d = blk1 A c V 4 t :=
  Pipeline.Dat.before_in_eq_fetched (dat1 A c V) 4 rfl (fun _ => rfl) (fun _ _ _ => rfl) (fun _ => rfl) t d
@[inherit_doc before1_0] theorem before1_5 (t : Fin (cfg1 A).N) (d) : (dat1 A c V).before 5 t d = blk1 A c V 5 t :=
  Pipeline.Dat.before_in_eq_fetched (dat1 A c V) 5 rfl (fun _ => rfl) (fun _ _ _ => rfl) (fun _ => rfl) t d
@[inherit_doc before1_0] theorem before1_6 (t : Fin (cfg1 A).N) (d) : (dat1 A c V).before 6 t d = blk1 A c V 6 t :=
  Pipeline.Dat.before_in_eq_fetched (dat1 A c V) 6 rfl (fun _ => rfl) (fun _ _ _ => rfl) (fun _ => rfl) t d
@[inherit_doc before1_0] theorem before1_7 (t : Fin (cfg1 A).N) (d) : (dat1 A c V).before 7 t d = blk1 A c V 7 t :=
  Pipeline.Dat.before_in_eq_fetched (dat1 A c V) 7 rfl (fun _ => rfl) (fun _ _ _ => rfl) (fun _ => rfl) t d
@[inherit_doc before1_0] theorem before1_8 (t : Fin (cfg1 A).N) (d) : (dat1 A c V).before 8 t d = blk1 A c V 8 t :=
  Pipeline.Dat.before_in_eq_fetched (dat1 A c V) 8 rfl (fun _ => rfl) (fun _ _ _ => rfl) (fun _ => rfl) t d

/-- The output window is written back at the last point only. -/
theorem flush1_9 (t : Fin (cfg1 A).N) : ((cfg1 A).win 9).flush t = true ↔ t.val = 23 := by
  rw [Pipeline.Window.flush_const ((cfg1 A).win 9) rfl (fun _ _ => rfl) (n := 24) (m := 23) N_1 rfl t]
  have := t.isLt
  have hN : (cfg1 A).N = 24 := N_1
  omega

/-- After the first point the output's staging buffer holds what had accumulated before the point, if the first block is in use. -/
theorem found9 (t : Fin (cfg1 A).N) (Y) (hY : ((dat1 A c V).toRRel fgt1 (rel1 A c V)).Finds 9 t Y) (ht : t.val ≠ 0) (h0 : act A (p0 A)) :
    Y = acc A c V (t.val - 1) := by
  rw [Pipeline.RDat.finds_of_pos _ (Pipeline.Window.fetch_out _ rfl t) ht] at hY
  rcases hY with hY | hY
  · rw [flush1_9] at hY
    have := t.isLt
    have hN : (cfg1 A).N = 24 := N_1
    have hY' : t.val - 1 = 23 := hY
    omega
  · exact (Pipeline.Dat.toRRel_leaves (dat1 A c V) (w := 9) rfl hY) h0

/-- A point past the first adds its block's contribution if the block is in use. -/
theorem acc_act (t : Fin (cfg1 A).N) (ht : t.val ≠ 0) (h : act A t) : acc A c V t.val = k1_pay1 (con A c V t) (acc A c V (t.val - 1)) := by
  obtain ⟨n, hn⟩ := t
  cases n with
  | zero => exact absurd rfl ht
  | succ n => rw [acc, dif_pos hn, if_pos h]; rfl
/-- And nothing if it is not. -/
theorem acc_idle (t : Fin (cfg1 A).N) (ht : t.val ≠ 0) (h : ¬ act A t) : acc A c V t.val = acc A c V (t.val - 1) := by
  obtain ⟨n, hn⟩ := t
  cases n with
  | zero => exact absurd rfl ht
  | succ n => rw [acc, dif_pos hn, if_neg h]; rfl

/-- The grid's one coordinate is the point. -/
theorem coords1 : ∀ t : Fin grid1.N, ((grid1.coords t) 0).val = t.val := by decide +kernel
/-- The kernel stores its first contribution at the first point. -/
theorem cond3_iff : ∀ t : Fin grid1.N, (k1_cond3 (grid1.coords t) = 1#1 ↔ t.val = 0) := by decide +kernel
/-- It adds to what is there at the later points. -/
theorem cond4_iff : ∀ t : Fin grid1.N, (k1_cond4 (grid1.coords t) = 1#1 ↔ t.val ≠ 0) := by decide +kernel

/-- A block is in use when its number is below the number of blocks in use. -/
theorem cond1_iff (i : grid1.Coords) (v : BitVec 32) : k1_cond1 i v = 1#1 ↔ ((i 0).val : ℤ) < v.toInt := by
  have hi : (BitVec.ofNat 32 (i 0).val).toInt = ((i 0).val : ℤ) := by
    have h : (i 0).val < 24 := (i 0).isLt
    generalize (i 0).val = n at h
    revert n; decide
  unfold k1_cond1
  have hs : (BitVec.ofNat 32 (i 0).val).slt v = decide (((i 0).val : ℤ) < v.toInt) := by
    unfold BitVec.slt; rw [hi]
  dsimp only [Scalar.cmpi, IntOp.cmpi, Scalar.extui]
  rw [hs]
  by_cases h : ((i 0).val : ℤ) < v.toInt
  · simp [h]
  · simp [h]

/-- If a block is in use so is the first. -/
theorem act_first (t : Fin (cfg1 A).N) (h : act A t) : act A (p0 A) := by
  intro j
  have hj := (cond1_iff _ _).mp (h j)
  rw [coords1] at hj
  refine (cond1_iff _ _).mpr ?_
  rw [coords1]
  have h0 : ((p0 A).val : ℤ) = 0 := rfl
  omega

/-- The table of one word has one index. -/
theorem one_idx : ∀ k j : S1.Idx, k = j := fun k j => funext fun a => Fin.ext (by
  have h1 := (k a).isLt
  have h2 := (j a).isLt
  fin_cases a
  change (k 0).val < 1 at h1
  change (j 0).val < 1 at h2
  show (k 0).val = (j 0).val
  omega)

/-- A block not in use: no read of the second table makes it so. -/
theorem not_act (t : Fin (cfg1 A).N) (h : ¬ act A t) : ∀ j, ¬ k1_cond1 (grid1.coords t) (A.1 1 j) = 1#1 := by
  intro j hj
  refine h fun k => ?_
  rwa [show k = j from one_idx k j]

/-- The first point's result. -/
theorem res_zero (t : Fin (cfg1 A).N) (ht : t.val = 0) : con A c V t = acc A c V t.val := by
  obtain ⟨n, hn⟩ := t
  obtain rfl : n = 0 := ht
  rfl

/-- If the first block is in use, one that is not is not the first. -/
theorem ht_of (t : Fin (cfg1 A).N) (h : ¬ act A t) (h0 : act A (p0 A)) : t.val ≠ 0 := by
  intro ht
  obtain ⟨n, hn⟩ := t
  obtain rfl : n = 0 := ht
  exact h h0

/-- The staging buffer of window 0 is a whole buffer. -/
theorem hst1_0 (t : Fin (cfg1 A).N) : (((cfg1 A).win 0).stage ((cfg1 A).slots t 0)).IsWhole := hstage1_0 (((cfg1 A).slots t 0).cast nbuf1_0)
/-- The staging buffer of window 1 is a whole buffer. -/
theorem hst1_1 (t : Fin (cfg1 A).N) : (((cfg1 A).win 1).stage ((cfg1 A).slots t 1)).IsWhole := hstage1_1 (((cfg1 A).slots t 1).cast nbuf1_1)
/-- The staging buffer of window 2 is a whole buffer. -/
theorem hst1_2 (t : Fin (cfg1 A).N) : (((cfg1 A).win 2).stage ((cfg1 A).slots t 2)).IsWhole := hstage1_2 (((cfg1 A).slots t 2).cast nbuf1_2)
/-- The staging buffer of window 3 is a whole buffer. -/
theorem hst1_3 (t : Fin (cfg1 A).N) : (((cfg1 A).win 3).stage ((cfg1 A).slots t 3)).IsWhole := hstage1_3 (((cfg1 A).slots t 3).cast nbuf1_3)
/-- The staging buffer of window 4 is a whole buffer. -/
theorem hst1_4 (t : Fin (cfg1 A).N) : (((cfg1 A).win 4).stage ((cfg1 A).slots t 4)).IsWhole := hstage1_4 (((cfg1 A).slots t 4).cast nbuf1_4)
/-- The staging buffer of window 5 is a whole buffer. -/
theorem hst1_5 (t : Fin (cfg1 A).N) : (((cfg1 A).win 5).stage ((cfg1 A).slots t 5)).IsWhole := hstage1_5 (((cfg1 A).slots t 5).cast nbuf1_5)
/-- The staging buffer of window 6 is a whole buffer. -/
theorem hst1_6 (t : Fin (cfg1 A).N) : (((cfg1 A).win 6).stage ((cfg1 A).slots t 6)).IsWhole := hstage1_6 (((cfg1 A).slots t 6).cast nbuf1_6)
/-- The staging buffer of window 7 is a whole buffer. -/
theorem hst1_7 (t : Fin (cfg1 A).N) : (((cfg1 A).win 7).stage ((cfg1 A).slots t 7)).IsWhole := hstage1_7 (((cfg1 A).slots t 7).cast nbuf1_7)
/-- The staging buffer of window 8 is a whole buffer. -/
theorem hst1_8 (t : Fin (cfg1 A).N) : (((cfg1 A).win 8).stage ((cfg1 A).slots t 8)).IsWhole := hstage1_8 (((cfg1 A).slots t 8).cast nbuf1_8)
/-- The staging buffer of window 9 is a whole buffer. -/
theorem hst1_9 (t : Fin (cfg1 A).N) : (((cfg1 A).win 9).stage ((cfg1 A).slots t 9)).IsWhole := hstage1_9 (((cfg1 A).slots t 9).cast nbuf1_9)

/-- Window 0's staging buffer, opened. -/
theorem open1_0 (t : Fin (cfg1 A).N) : (owns (c : Thread nD τ) (((cfg1 A).win 0).stage ((cfg1 A).slots t 0)) fullShare (blk1 A c V 0 t) : sProp 𝕄) ⊢ pt c (((cfg1 A).win 0).stage ((cfg1 A).slots t 0)) ((hst1_0 A t).unread (blk1 A c V 0 t)) :=
  owns_open c (S := S2048x1024) (e := .f32) (((cfg1 A).win 0).stage ((cfg1 A).slots t 0)) (hst1_0 A t) (blk1 A c V 0 t)
/-- Window 0's staging buffer, closed. -/
theorem close1_0 (t : Fin (cfg1 A).N) : pt c (((cfg1 A).win 0).stage ((cfg1 A).slots t 0)) ((hst1_0 A t).unread (blk1 A c V 0 t)) ⊢ (owns (c : Thread nD τ) (((cfg1 A).win 0).stage ((cfg1 A).slots t 0)) fullShare (blk1 A c V 0 t) : sProp 𝕄) :=
  owns_close c (S := S2048x1024) (e := .f32) (((cfg1 A).win 0).stage ((cfg1 A).slots t 0)) (hst1_0 A t) (blk1 A c V 0 t)
/-- Window 1's staging buffer, opened. -/
theorem open1_1 (t : Fin (cfg1 A).N) : (owns (c : Thread nD τ) (((cfg1 A).win 1).stage ((cfg1 A).slots t 1)) fullShare (blk1 A c V 1 t) : sProp 𝕄) ⊢ pt c (((cfg1 A).win 1).stage ((cfg1 A).slots t 1)) ((hst1_1 A t).unread (blk1 A c V 1 t)) :=
  owns_open c (S := S2x2048) (e := .i32) (((cfg1 A).win 1).stage ((cfg1 A).slots t 1)) (hst1_1 A t) (blk1 A c V 1 t)
/-- Window 1's staging buffer, closed. -/
theorem close1_1 (t : Fin (cfg1 A).N) : pt c (((cfg1 A).win 1).stage ((cfg1 A).slots t 1)) ((hst1_1 A t).unread (blk1 A c V 1 t)) ⊢ (owns (c : Thread nD τ) (((cfg1 A).win 1).stage ((cfg1 A).slots t 1)) fullShare (blk1 A c V 1 t) : sProp 𝕄) :=
  owns_close c (S := S2x2048) (e := .i32) (((cfg1 A).win 1).stage ((cfg1 A).slots t 1)) (hst1_1 A t) (blk1 A c V 1 t)
/-- Window 2's staging buffer, opened. -/
theorem open1_2 (t : Fin (cfg1 A).N) : (owns (c : Thread nD τ) (((cfg1 A).win 2).stage ((cfg1 A).slots t 2)) fullShare (blk1 A c V 2 t) : sProp 𝕄) ⊢ pt c (((cfg1 A).win 2).stage ((cfg1 A).slots t 2)) ((hst1_2 A t).unread (blk1 A c V 2 t)) :=
  owns_open c (S := S2x2048) (e := .f32) (((cfg1 A).win 2).stage ((cfg1 A).slots t 2)) (hst1_2 A t) (blk1 A c V 2 t)
/-- Window 2's staging buffer, closed. -/
theorem close1_2 (t : Fin (cfg1 A).N) : pt c (((cfg1 A).win 2).stage ((cfg1 A).slots t 2)) ((hst1_2 A t).unread (blk1 A c V 2 t)) ⊢ (owns (c : Thread nD τ) (((cfg1 A).win 2).stage ((cfg1 A).slots t 2)) fullShare (blk1 A c V 2 t) : sProp 𝕄) :=
  owns_close c (S := S2x2048) (e := .f32) (((cfg1 A).win 2).stage ((cfg1 A).slots t 2)) (hst1_2 A t) (blk1 A c V 2 t)
/-- Window 3's staging buffer, opened. -/
theorem open1_3 (t : Fin (cfg1 A).N) : (owns (c : Thread nD τ) (((cfg1 A).win 3).stage ((cfg1 A).slots t 3)) fullShare (blk1 A c V 3 t) : sProp 𝕄) ⊢ pt c (((cfg1 A).win 3).stage ((cfg1 A).slots t 3)) ((hst1_3 A t).unread (blk1 A c V 3 t)) :=
  owns_open c (S := S1x1024x1024) (e := .f32) (((cfg1 A).win 3).stage ((cfg1 A).slots t 3)) (hst1_3 A t) (blk1 A c V 3 t)
/-- Window 3's staging buffer, closed. -/
theorem close1_3 (t : Fin (cfg1 A).N) : pt c (((cfg1 A).win 3).stage ((cfg1 A).slots t 3)) ((hst1_3 A t).unread (blk1 A c V 3 t)) ⊢ (owns (c : Thread nD τ) (((cfg1 A).win 3).stage ((cfg1 A).slots t 3)) fullShare (blk1 A c V 3 t) : sProp 𝕄) :=
  owns_close c (S := S1x1024x1024) (e := .f32) (((cfg1 A).win 3).stage ((cfg1 A).slots t 3)) (hst1_3 A t) (blk1 A c V 3 t)
/-- Window 4's staging buffer, opened. -/
theorem open1_4 (t : Fin (cfg1 A).N) : (owns (c : Thread nD τ) (((cfg1 A).win 4).stage ((cfg1 A).slots t 4)) fullShare (blk1 A c V 4 t) : sProp 𝕄) ⊢ pt c (((cfg1 A).win 4).stage ((cfg1 A).slots t 4)) ((hst1_4 A t).unread (blk1 A c V 4 t)) :=
  owns_open c (S := S1x1024x1024) (e := .f32) (((cfg1 A).win 4).stage ((cfg1 A).slots t 4)) (hst1_4 A t) (blk1 A c V 4 t)
/-- Window 4's staging buffer, closed. -/
theorem close1_4 (t : Fin (cfg1 A).N) : pt c (((cfg1 A).win 4).stage ((cfg1 A).slots t 4)) ((hst1_4 A t).unread (blk1 A c V 4 t)) ⊢ (owns (c : Thread nD τ) (((cfg1 A).win 4).stage ((cfg1 A).slots t 4)) fullShare (blk1 A c V 4 t) : sProp 𝕄) :=
  owns_close c (S := S1x1024x1024) (e := .f32) (((cfg1 A).win 4).stage ((cfg1 A).slots t 4)) (hst1_4 A t) (blk1 A c V 4 t)
/-- Window 5's staging buffer, opened. -/
theorem open1_5 (t : Fin (cfg1 A).N) : (owns (c : Thread nD τ) (((cfg1 A).win 5).stage ((cfg1 A).slots t 5)) fullShare (blk1 A c V 5 t) : sProp 𝕄) ⊢ pt c (((cfg1 A).win 5).stage ((cfg1 A).slots t 5)) ((hst1_5 A t).unread (blk1 A c V 5 t)) :=
  owns_open c (S := S1x1x2048) (e := .f32) (((cfg1 A).win 5).stage ((cfg1 A).slots t 5)) (hst1_5 A t) (blk1 A c V 5 t)
/-- Window 5's staging buffer, closed. -/
theorem close1_5 (t : Fin (cfg1 A).N) : pt c (((cfg1 A).win 5).stage ((cfg1 A).slots t 5)) ((hst1_5 A t).unread (blk1 A c V 5 t)) ⊢ (owns (c : Thread nD τ) (((cfg1 A).win 5).stage ((cfg1 A).slots t 5)) fullShare (blk1 A c V 5 t) : sProp 𝕄) :=
  owns_close c (S := S1x1x2048) (e := .f32) (((cfg1 A).win 5).stage ((cfg1 A).slots t 5)) (hst1_5 A t) (blk1 A c V 5 t)
/-- Window 6's staging buffer, opened. -/
theorem open1_6 (t : Fin (cfg1 A).N) : (owns (c : Thread nD τ) (((cfg1 A).win 6).stage ((cfg1 A).slots t 6)) fullShare (blk1 A c V 6 t) : sProp 𝕄) ⊢ pt c (((cfg1 A).win 6).stage ((cfg1 A).slots t 6)) ((hst1_6 A t).unread (blk1 A c V 6 t)) :=
  owns_open c (S := S1x1024x1024) (e := .f32) (((cfg1 A).win 6).stage ((cfg1 A).slots t 6)) (hst1_6 A t) (blk1 A c V 6 t)
/-- Window 6's staging buffer, closed. -/
theorem close1_6 (t : Fin (cfg1 A).N) : pt c (((cfg1 A).win 6).stage ((cfg1 A).slots t 6)) ((hst1_6 A t).unread (blk1 A c V 6 t)) ⊢ (owns (c : Thread nD τ) (((cfg1 A).win 6).stage ((cfg1 A).slots t 6)) fullShare (blk1 A c V 6 t) : sProp 𝕄) :=
  owns_close c (S := S1x1024x1024) (e := .f32) (((cfg1 A).win 6).stage ((cfg1 A).slots t 6)) (hst1_6 A t) (blk1 A c V 6 t)
/-- Window 7's staging buffer, opened. -/
theorem open1_7 (t : Fin (cfg1 A).N) : (owns (c : Thread nD τ) (((cfg1 A).win 7).stage ((cfg1 A).slots t 7)) fullShare (blk1 A c V 7 t) : sProp 𝕄) ⊢ pt c (((cfg1 A).win 7).stage ((cfg1 A).slots t 7)) ((hst1_7 A t).unread (blk1 A c V 7 t)) :=
  owns_open c (S := S1x1024x1024) (e := .f32) (((cfg1 A).win 7).stage ((cfg1 A).slots t 7)) (hst1_7 A t) (blk1 A c V 7 t)
/-- Window 7's staging buffer, closed. -/
theorem close1_7 (t : Fin (cfg1 A).N) : pt c (((cfg1 A).win 7).stage ((cfg1 A).slots t 7)) ((hst1_7 A t).unread (blk1 A c V 7 t)) ⊢ (owns (c : Thread nD τ) (((cfg1 A).win 7).stage ((cfg1 A).slots t 7)) fullShare (blk1 A c V 7 t) : sProp 𝕄) :=
  owns_close c (S := S1x1024x1024) (e := .f32) (((cfg1 A).win 7).stage ((cfg1 A).slots t 7)) (hst1_7 A t) (blk1 A c V 7 t)
/-- Window 8's staging buffer, opened. -/
theorem open1_8 (t : Fin (cfg1 A).N) : (owns (c : Thread nD τ) (((cfg1 A).win 8).stage ((cfg1 A).slots t 8)) fullShare (blk1 A c V 8 t) : sProp 𝕄) ⊢ pt c (((cfg1 A).win 8).stage ((cfg1 A).slots t 8)) ((hst1_8 A t).unread (blk1 A c V 8 t)) :=
  owns_open c (S := S1x1x1024) (e := .f32) (((cfg1 A).win 8).stage ((cfg1 A).slots t 8)) (hst1_8 A t) (blk1 A c V 8 t)
/-- Window 8's staging buffer, closed. -/
theorem close1_8 (t : Fin (cfg1 A).N) : pt c (((cfg1 A).win 8).stage ((cfg1 A).slots t 8)) ((hst1_8 A t).unread (blk1 A c V 8 t)) ⊢ (owns (c : Thread nD τ) (((cfg1 A).win 8).stage ((cfg1 A).slots t 8)) fullShare (blk1 A c V 8 t) : sProp 𝕄) :=
  owns_close c (S := S1x1x1024) (e := .f32) (((cfg1 A).win 8).stage ((cfg1 A).slots t 8)) (hst1_8 A t) (blk1 A c V 8 t)

set_option maxHeartbeats 1000000 in
/-- The second kernel's body obligation. -/
theorem obligation1 : BodyObligationRel (dat1 A c V) (defs₀ (F := F)) Variants.none () Set.univ fgt1 (rel1 A c V) := fun t => by
  rw [bigSep_W1, bigSep_W1]
  show iprop(iprop(tables A c ∗ others c ∗ scr A c t.val) ∗ (dat1 A c V).owesAt () t.castSucc ∗ iprop(∃ d, owns (c : Thread nD τ) (((cfg1 A).win 0).stage ((cfg1 A).slots t 0)) fullShare ((dat1 A c V).before 0 t d)) ∗ iprop(∃ d, owns (c : Thread nD τ) (((cfg1 A).win 1).stage ((cfg1 A).slots t 1)) fullShare ((dat1 A c V).before 1 t d)) ∗ iprop(∃ d, owns (c : Thread nD τ) (((cfg1 A).win 2).stage ((cfg1 A).slots t 2)) fullShare ((dat1 A c V).before 2 t d)) ∗ iprop(∃ d, owns (c : Thread nD τ) (((cfg1 A).win 3).stage ((cfg1 A).slots t 3)) fullShare ((dat1 A c V).before 3 t d)) ∗ iprop(∃ d, owns (c : Thread nD τ) (((cfg1 A).win 4).stage ((cfg1 A).slots t 4)) fullShare ((dat1 A c V).before 4 t d)) ∗ iprop(∃ d, owns (c : Thread nD τ) (((cfg1 A).win 5).stage ((cfg1 A).slots t 5)) fullShare ((dat1 A c V).before 5 t d)) ∗ iprop(∃ d, owns (c : Thread nD τ) (((cfg1 A).win 6).stage ((cfg1 A).slots t 6)) fullShare ((dat1 A c V).before 6 t d)) ∗ iprop(∃ d, owns (c : Thread nD τ) (((cfg1 A).win 7).stage ((cfg1 A).slots t 7)) fullShare ((dat1 A c V).before 7 t d)) ∗ iprop(∃ d, owns (c : Thread nD τ) (((cfg1 A).win 8).stage ((cfg1 A).slots t 8)) fullShare ((dat1 A c V).before 8 t d)) ∗ iprop(∃ Y, ⌜((dat1 A c V).toRRel fgt1 (rel1 A c V)).Finds 9 t Y⌝ ∗ owns (c : Thread nD τ) (((cfg1 A).win 9).stage ((cfg1 A).slots t 9)) fullShare Y))
    ⊢ wp frame (wpE (defs₀ (F := F)) Variants.none c none) Set.univ (cc1__ffn_body (grid1.coords t) (Memref.whole main_v5) (Memref.isWhole_whole _) (Memref.whole main_v6) (Memref.isWhole_whole _) (((cfg1 A).win 0).stage ((cfg1 A).slots t 0)) (hst1_0 A t) (((cfg1 A).win 1).stage ((cfg1 A).slots t 1)) (hst1_1 A t) (((cfg1 A).win 2).stage ((cfg1 A).slots t 2)) (hst1_2 A t) (((cfg1 A).win 3).stage ((cfg1 A).slots t 3)) (hst1_3 A t) (((cfg1 A).win 4).stage ((cfg1 A).slots t 4)) (hst1_4 A t) (((cfg1 A).win 5).stage ((cfg1 A).slots t 5)) (hst1_5 A t) (((cfg1 A).win 6).stage ((cfg1 A).slots t 6)) (hst1_6 A t) (((cfg1 A).win 7).stage ((cfg1 A).slots t 7)) (hst1_7 A t) (((cfg1 A).win 8).stage ((cfg1 A).slots t 8)) (hst1_8 A t) (((cfg1 A).win 9).stage ((cfg1 A).slots t 9)) (hst1_9 A t) (Memref.whole cc1_scratch0) (Memref.isWhole_whole _)) fun _ =>
      iprop(iprop(tables A c ∗ others c ∗ scr A c (t.val + 1)) ∗ (dat1 A c V).owesAt () t.castSucc ∗ owns (c : Thread nD τ) (((cfg1 A).win 0).stage ((cfg1 A).slots t 0)) fullShare (blk1 A c V 0 t) ∗ owns (c : Thread nD τ) (((cfg1 A).win 1).stage ((cfg1 A).slots t 1)) fullShare (blk1 A c V 1 t) ∗ owns (c : Thread nD τ) (((cfg1 A).win 2).stage ((cfg1 A).slots t 2)) fullShare (blk1 A c V 2 t) ∗ owns (c : Thread nD τ) (((cfg1 A).win 3).stage ((cfg1 A).slots t 3)) fullShare (blk1 A c V 3 t) ∗ owns (c : Thread nD τ) (((cfg1 A).win 4).stage ((cfg1 A).slots t 4)) fullShare (blk1 A c V 4 t) ∗ owns (c : Thread nD τ) (((cfg1 A).win 5).stage ((cfg1 A).slots t 5)) fullShare (blk1 A c V 5 t) ∗ owns (c : Thread nD τ) (((cfg1 A).win 6).stage ((cfg1 A).slots t 6)) fullShare (blk1 A c V 6 t) ∗ owns (c : Thread nD τ) (((cfg1 A).win 7).stage ((cfg1 A).slots t 7)) fullShare (blk1 A c V 7 t) ∗ owns (c : Thread nD τ) (((cfg1 A).win 8).stage ((cfg1 A).slots t 8)) fullShare (blk1 A c V 8 t) ∗ iprop(∃ X, ⌜rel1 A c V 9 t X⌝ ∗ owns (c : Thread nD τ) (((cfg1 A).win 9).stage ((cfg1 A).slots t 9)) fullShare X))
  unfold tables scr
  iintro ⟨⟨⟨Hb, Hu⟩, Ho, ⟨%fs, %hfs, Hs⟩⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y, %hY, H9⟩⟩
  rw [before1_0]
  rw [before1_1]
  rw [before1_2]
  rw [before1_3]
  rw [before1_4]
  rw [before1_5]
  rw [before1_6]
  rw [before1_7]
  rw [before1_8]
  ihave H0 := (open1_0 A c V t) $$ H0
  ihave H1 := (open1_1 A c V t) $$ H1
  ihave H2 := (open1_2 A c V t) $$ H2
  ihave H3 := (open1_3 A c V t) $$ H3
  ihave H4 := (open1_4 A c V t) $$ H4
  ihave H5 := (open1_5 A c V t) $$ H5
  ihave H6 := (open1_6 A c V t) $$ H6
  ihave H7 := (open1_7 A c V t) $$ H7
  ihave H8 := (open1_8 A c V t) $$ H8
  ihave H9 := (owns_open c _ (hst1_9 A t) _) $$ H9
  by_cases hact : act A t
  · by_cases ht : t.val = 0
    ·
      iapply (ffnFirst c (grid1.coords t) (((cfg1 A).win 0).stage ((cfg1 A).slots t 0)) (hst1_0 A t) (((cfg1 A).win 1).stage ((cfg1 A).slots t 1)) (hst1_1 A t) (((cfg1 A).win 2).stage ((cfg1 A).slots t 2)) (hst1_2 A t) (((cfg1 A).win 3).stage ((cfg1 A).slots t 3)) (hst1_3 A t) (((cfg1 A).win 4).stage ((cfg1 A).slots t 4)) (hst1_4 A t) (((cfg1 A).win 5).stage ((cfg1 A).slots t 5)) (hst1_5 A t) (((cfg1 A).win 6).stage ((cfg1 A).slots t 6)) (hst1_6 A t) (((cfg1 A).win 7).stage ((cfg1 A).slots t 7)) (hst1_7 A t) (((cfg1 A).win 8).stage ((cfg1 A).slots t 8)) (hst1_8 A t) (((cfg1 A).win 9).stage ((cfg1 A).slots t 9)) (hst1_9 A t) (blk1 A c V 0 t) (blk1 A c V 1 t) (blk1 A c V 2 t) (blk1 A c V 3 t) (blk1 A c V 4 t) (blk1 A c V 5 t) (blk1 A c V 6 t) (blk1 A c V 7 t) (blk1 A c V 8 t) (A.1 1) _ fs hact ((cond3_iff t).mpr ht) (fun h => (cond4_iff t).mp h ht) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [Hs]; · iexact Hs
      isplitl [Hu]; · iexact Hu
      iintro ⟨H0, H1, H2, H3, H4, H5, H6, H7, H8, H9, Hs, Hu⟩
      isplitl [Hb Hu Ho Hs]
      · isplitl [Hb Hu]
        · isplitl [Hb]; · iexact Hb
          iexact Hu
        isplitl [Ho]; · iexact Ho
        iexists _
        isplitr; swap; (· iexact Hs)
        ipureintro; exact fun _ _ => rfl
      isplitl [Howes]; · iexact Howes
      isplitl [H0]; · iapply (close1_0 A c V t); iexact H0
      isplitl [H1]; · iapply (close1_1 A c V t); iexact H1
      isplitl [H2]; · iapply (close1_2 A c V t); iexact H2
      isplitl [H3]; · iapply (close1_3 A c V t); iexact H3
      isplitl [H4]; · iapply (close1_4 A c V t); iexact H4
      isplitl [H5]; · iapply (close1_5 A c V t); iexact H5
      isplitl [H6]; · iapply (close1_6 A c V t); iexact H6
      isplitl [H7]; · iapply (close1_7 A c V t); iexact H7
      isplitl [H8]; · iapply (close1_8 A c V t); iexact H8
      iexists _
      isplitr; swap; (· iapply (owns_close c _ (hst1_9 A t) _); iexact H9)
      ipureintro; exact fun _ => res_zero A c V t ht

    ·
      obtain rfl := hfs ht (act_first A t hact)
      iapply (ffnLater c (grid1.coords t) (((cfg1 A).win 0).stage ((cfg1 A).slots t 0)) (hst1_0 A t) (((cfg1 A).win 1).stage ((cfg1 A).slots t 1)) (hst1_1 A t) (((cfg1 A).win 2).stage ((cfg1 A).slots t 2)) (hst1_2 A t) (((cfg1 A).win 3).stage ((cfg1 A).slots t 3)) (hst1_3 A t) (((cfg1 A).win 4).stage ((cfg1 A).slots t 4)) (hst1_4 A t) (((cfg1 A).win 5).stage ((cfg1 A).slots t 5)) (hst1_5 A t) (((cfg1 A).win 6).stage ((cfg1 A).slots t 6)) (hst1_6 A t) (((cfg1 A).win 7).stage ((cfg1 A).slots t 7)) (hst1_7 A t) (((cfg1 A).win 8).stage ((cfg1 A).slots t 8)) (hst1_8 A t) (((cfg1 A).win 9).stage ((cfg1 A).slots t 9)) (hst1_9 A t) (blk1 A c V 0 t) (blk1 A c V 1 t) (blk1 A c V 2 t) (blk1 A c V 3 t) (blk1 A c V 4 t) (blk1 A c V 5 t) (blk1 A c V 6 t) (blk1 A c V 7 t) (blk1 A c V 8 t) (A.1 1) Y hact (fun h => ht ((cond3_iff t).mp h)) ((cond4_iff t).mpr ht) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [Hs]; · iexact Hs
      isplitl [Hu]; · iexact Hu
      iintro ⟨H0, H1, H2, H3, H4, H5, H6, H7, H8, H9, Hs, Hu⟩
      isplitl [Hb Hu Ho Hs]
      · isplitl [Hb Hu]
        · isplitl [Hb]; · iexact Hb
          iexact Hu
        isplitl [Ho]; · iexact Ho
        iexists _
        isplitr; swap; (· iexact Hs)
        ipureintro; exact fun _ _ => rfl
      isplitl [Howes]; · iexact Howes
      isplitl [H0]; · iapply (close1_0 A c V t); iexact H0
      isplitl [H1]; · iapply (close1_1 A c V t); iexact H1
      isplitl [H2]; · iapply (close1_2 A c V t); iexact H2
      isplitl [H3]; · iapply (close1_3 A c V t); iexact H3
      isplitl [H4]; · iapply (close1_4 A c V t); iexact H4
      isplitl [H5]; · iapply (close1_5 A c V t); iexact H5
      isplitl [H6]; · iapply (close1_6 A c V t); iexact H6
      isplitl [H7]; · iapply (close1_7 A c V t); iexact H7
      isplitl [H8]; · iapply (close1_8 A c V t); iexact H8
      iexists _
      isplitr; swap; (· iapply (owns_close c _ (hst1_9 A t) _); iexact H9)
      ipureintro; exact fun h0 => (congrArg (k1_pay1 (con A c V t)) (found9 A c V t Y hY ht h0)).trans (acc_act A c V t ht hact).symm

  ·
    iapply (ffnIdle c (grid1.coords t) (((cfg1 A).win 0).stage ((cfg1 A).slots t 0)) (hst1_0 A t) (((cfg1 A).win 1).stage ((cfg1 A).slots t 1)) (hst1_1 A t) (((cfg1 A).win 2).stage ((cfg1 A).slots t 2)) (hst1_2 A t) (((cfg1 A).win 3).stage ((cfg1 A).slots t 3)) (hst1_3 A t) (((cfg1 A).win 4).stage ((cfg1 A).slots t 4)) (hst1_4 A t) (((cfg1 A).win 5).stage ((cfg1 A).slots t 5)) (hst1_5 A t) (((cfg1 A).win 6).stage ((cfg1 A).slots t 6)) (hst1_6 A t) (((cfg1 A).win 7).stage ((cfg1 A).slots t 7)) (hst1_7 A t) (((cfg1 A).win 8).stage ((cfg1 A).slots t 8)) (hst1_8 A t) (((cfg1 A).win 9).stage ((cfg1 A).slots t 9)) (hst1_9 A t) (blk1 A c V 0 t) (blk1 A c V 1 t) (blk1 A c V 2 t) (blk1 A c V 3 t) (blk1 A c V 4 t) (blk1 A c V 5 t) (blk1 A c V 6 t) (blk1 A c V 7 t) (blk1 A c V 8 t) (A.1 1) _ fs (not_act A t hact) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hs]; · iexact Hs
    isplitl [Hu]; · iexact Hu
    iintro ⟨H0, H1, H2, H3, H4, H5, H6, H7, H8, H9, Hs, Hu⟩
    isplitl [Hb Hu Ho Hs]
    · isplitl [Hb Hu]
      · isplitl [Hb]; · iexact Hb
        iexact Hu
      isplitl [Ho]; · iexact Ho
      iexists _
      isplitr; swap; (· iexact Hs)
      ipureintro; exact fun _ h0 => hfs (ht_of A t hact h0) h0
    isplitl [Howes]; · iexact Howes
    isplitl [H0]; · iapply (close1_0 A c V t); iexact H0
    isplitl [H1]; · iapply (close1_1 A c V t); iexact H1
    isplitl [H2]; · iapply (close1_2 A c V t); iexact H2
    isplitl [H3]; · iapply (close1_3 A c V t); iexact H3
    isplitl [H4]; · iapply (close1_4 A c V t); iexact H4
    isplitl [H5]; · iapply (close1_5 A c V t); iexact H5
    isplitl [H6]; · iapply (close1_6 A c V t); iexact H6
    isplitl [H7]; · iapply (close1_7 A c V t); iexact H7
    isplitl [H8]; · iapply (close1_8 A c V t); iexact H8
    iexists _
    isplitr; swap; (· iapply (owns_close c _ (hst1_9 A t) _); iexact H9)
    ipureintro; exact fun h0 => (found9 A c V t Y hY (ht_of A t hact h0) h0).trans (acc_idle A c V t (ht_of A t hact h0) hact).symm

end Cert.Proof.RunI

end
-- ==== Proof.RunI.Final1.lean ====
/-
  The region of the second kernel over the program's state: what its arrays hold at its end.
-/
module

public import proofs.«01_k».proof.Proof.RunI.Region1
public import Idealize.ShloMosaic.Lib.Pipeline.RegionsLoop

@[expose] public section

set_option maxRecDepth 16384

noncomputable section

namespace Cert.Proof.RunI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat RDat Cfg Window BodyObligationRel)

local notation "𝕄" => MT nD τ sig Unit (Elt F) ℕ UU ℕ

section One

variable (A : (pcfg1 (F := F)).Adm) (c : Dev nD) (V : (b : Ref sig .tc) → Buf (Elt F) ((c : Thread nD τ).loc b))

/-- The second kernel's data, its output held to a relation. -/
def rd1 : RDat τ (Elt F) Unit ℕ UU ℕ (cfg1 A) c := (dat1 A c V).toRRel fgt1 (rel1 A c V)

/-- The last point. -/
abbrev p23 : Fin (cfg1 A).N := ⟨23, Nat.lt_of_lt_of_eq (by decide : 23 < 24) N_1.symm⟩

/-- The output's block is the whole of it, written back once. -/
theorem whole9 : ((cfg1 A).win 9).WholeAt (p23 A) :=
  ⟨(flush1_9 A _).mpr rfl, fun t h => Fin.ext ((flush1_9 A t).mp h), fun a => by
    fin_cases a
    · exact ⟨rfl, rfl⟩
    · exact ⟨rfl, rfl⟩⟩

/-- If the first block is in use, the output's array ends holding what accumulated over the blocks in use. -/
theorem final9 (G : FVec F S2048x1024 .f32) (hG : (rd1 A c V).ArrAt 9 (cfg1 A).N G) (h0 : act A (p0 A)) : G = acc A c V 23 := by
  obtain ⟨X, hX, hj⟩ := Pipeline.RDat.ArrAt.emb_eq_of_wholeAt (rd := rd1 A c V) (w := 9) hG (whole9 A)
  have hX' := Pipeline.Dat.toRRel_leaves (dat1 A c V) (w := 9) rfl hX h0
  subst hX'
  funext j
  exact hj j

/-- The arrays after the region are the buffers behind them: the inputs as before, the output at its result. -/
theorem arrays_out (B : FVec F S2048x1024 .f32 → (b : Ref sig .tc) → Buf (Elt F) ((c : Thread nD τ).loc b))
    (hB9 : ∀ o, B o main_v9 = o) (hB : ∀ o b, b ≠ main_v9 → B o b = V b) :
    ((rd1 A c V).arraysAt (cfg1 A).N : sProp 𝕄)
      ⊢ iprop(∃ o : FVec F S2048x1024 .f32, ⌜act A (p0 A) → o = acc A c V 23⌝ ∗ Pipeline.arrBufs spec1 c (B o)) := by
  unfold RDat.arraysAt
  refine (BI.bigSep_exists_pi Finset.univ _).trans ?_
  iintro ⟨%G, H⟩
  ihave H' := (BI.bigSep_pure_sep Finset.univ (fun w => (rd1 A c V).ArrAt w (cfg1 A).N (G w)) _) $$ H
  icases H' with ⟨%hG, H⟩
  iexists (G 9)
  isplitr
  · ipureintro; exact final9 A c V (G 9) (hG 9 (Finset.mem_univ _))
  iapply (Entails.of_eq ((rd1 A c V).arrBufs_eq_arrays (launch₀1 (F := F)).sharedIn (launch₀1 (F := F)).arr_whole (fun _ _ => rfl) (B (G 9)) G ?hF).symm)
  rotate_left
  · unfold RDat.arrays; iexact H
  have hin : ∀ w : Fin (cfg1 A).W, ((cfg1 A).win w).isOut = false → Pipeline.arrRef spec1 w ≠ main_v9 → G w = B (G 9) (Pipeline.arrRef spec1 w) := fun w hw hne => by
    have h := hG w (Finset.mem_univ _)
    rw [RDat.ArrAt_in (rd1 A c V) w hw] at h
    exact h.trans (hB _ _ hne).symm
  intro w
  fin_cases w
  · exact hin 0 rfl (show (main_v0 : Ref sig .tc) ≠ main_v9 by decide)
  · exact hin 1 rfl (show (main_v3 : Ref sig .tc) ≠ main_v9 by decide)
  · exact hin 2 rfl (show (main_v4 : Ref sig .tc) ≠ main_v9 by decide)
  · exact hin 3 rfl (show (main_arg3 : Ref sig .tc) ≠ main_v9 by decide)
  · exact hin 4 rfl (show (main_arg3 : Ref sig .tc) ≠ main_v9 by decide)
  · exact hin 5 rfl (show (main_v7 : Ref sig .tc) ≠ main_v9 by decide)
  · exact hin 6 rfl (show (main_arg5 : Ref sig .tc) ≠ main_v9 by decide)
  · exact hin 7 rfl (show (main_arg5 : Ref sig .tc) ≠ main_v9 by decide)
  · exact hin 8 rfl (show (main_v8 : Ref sig .tc) ≠ main_v9 by decide)
  · exact (hB9 _).symm

end One

end Cert.Proof.RunI

end
-- ==== Proof.RunI.Region0.lean ====
/-
  The router as a region of the program: its proof data over the contents it is entered at, its body obligation,
  and what its nine arrays hold when it is left.
-/
module

public import proofs.«01_k».proof.Proof.RunI.State
public import Idealize.ShloMosaic.Lib.Pipeline.ValueKit.Geometry

@[expose] public section

set_option maxRecDepth 16384

noncomputable section

namespace Cert.Proof.RunI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
open Idealize.ShloMosaic.Pipeline (Dat Cfg Window BodyObligation)

local notation "𝕄" => MT nD τ sig Unit (Elt F) ℕ UU ℕ

variable (m : (ℓ : Loc nD τ sig) → Buf (Elt F) ℓ)

/-- The scoped buffers the router does not stage, held at something. -/
abbrev Φ0 (c : Dev nD) : sProp 𝕄 := Pipeline.scopedRest (Ix := Unit) (Name := ℕ) (U := UU) (Lvl := ℕ) (Val := Elt F) spec0 c

/-- The router's proof data on core `c`: the inputs stay, each output ends at its payload. -/
def dat0 (c : Dev nD) : Dat τ (Elt F) Unit ℕ UU ℕ cfg0 c where
  A w := V1 m c (Pipeline.arrRef spec0 w)
  after w _ := match w with
    | ⟨0, _⟩ => inX m c
    | ⟨1, _⟩ => inG m c
    | ⟨2, _⟩ => inB m c
    | ⟨3, _⟩ => oDst (inX m c) (inG m c) (inB m c)
    | ⟨4, _⟩ => oWw (inX m c) (inG m c) (inB m c)
    | ⟨5, _⟩ => oBe (inX m c) (inG m c) (inB m c)
    | ⟨6, _⟩ => oUsed (inX m c) (inG m c) (inB m c)
    | ⟨7, _⟩ => oUsage (inX m c) (inG m c) (inB m c)
    | ⟨8, _⟩ => oLbl (inX m c) (inG m c) (inB m c)
  Φ _ := Φ0 c
  q _ := fullShare
  owed _ := 0

/-- The first input's staging buffer holds the tokens' rows when the body runs. -/
theorem before0_0 (c : Dev nD) (d) : (dat0 m c).before 0 t0_0 d = inX m c := by
  unfold Dat.before; rw [if_pos (by decide)]
  funext j
  refine (congrArg (V1 m c main_v0) (?_ : _ = j))
  funext a; apply Fin.ext; exact Window.rect_emb_val_of_index_zero (cfg0.win 0) t0_0 a rfl _
/-- The second input's staging buffer holds the gate's weights. -/
theorem before0_1 (c : Dev nD) (d) : (dat0 m c).before 1 t0_0 d = inG m c := by
  unfold Dat.before; rw [if_pos (by decide)]
  funext j
  refine (congrArg (V1 m c main_arg1) (?_ : _ = j))
  funext a; apply Fin.ext; exact Window.rect_emb_val_of_index_zero (cfg0.win 1) t0_0 a rfl _
/-- The third input's staging buffer holds the gate's bias. -/
theorem before0_2 (c : Dev nD) (d) : (dat0 m c).before 2 t0_0 d = inB m c := by
  unfold Dat.before; rw [if_pos (by decide)]
  funext j
  refine (congrArg (V1 m c main_v1) (?_ : _ = j))
  funext a; apply Fin.ext; exact Window.rect_emb_val_of_index_zero (cfg0.win 2) t0_0 a rfl _

/-- The router's body obligation. -/
theorem obligation0 (c : Dev nD) : BodyObligation (dat0 m c) (defs₀ (F := F)) Variants.none () Set.univ := fun t => by
  obtain rfl := fin_N0 t
  rw [bigSep_W0, bigSep_W0]
  simp only [owns_whole_eq]
  rw [show (dat0 m c).Φ t0_0.castSucc = Φ0 c from rfl, show (dat0 m c).Φ t0_0.succ = Φ0 c from rfl,
    show (dat0 m c).owesAt () t0_0.succ = (dat0 m c).owesAt () t0_0.castSucc from rfl]
  iintro ⟨HΦ, Howes, ⟨%d0, %f0, %hf0, H0⟩, ⟨%d1, %f1, %hf1, H1⟩, ⟨%d2, %f2, %hf2, H2⟩, ⟨%d3, %f3, -, H3⟩, ⟨%d4, %f4, -, H4⟩,
    ⟨%d5, %f5, -, H5⟩, ⟨%d6, %f6, -, H6⟩, ⟨%d7, %f7, -, H7⟩, ⟨%d8, %f8, -, H8⟩⟩
  rw [before0_0] at hf0
  rw [before0_1] at hf1
  rw [before0_2] at hf2
  subst hf0 hf1 hf2
  iapply (routerRun c (inX m c) (inG m c) (inB m c) f3 f4 f5 f6 f7 f8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  isplitl [H3]; · iexists _; isplitr; swap; (· iexact H3); ipureintro; dsimp only [dat0]
  isplitl [H4]; · iexists _; isplitr; swap; (· iexact H4); ipureintro; dsimp only [dat0]
  isplitl [H5]; · iexists _; isplitr; swap; (· iexact H5); ipureintro; dsimp only [dat0]
  isplitl [H6]; · iexists _; isplitr; swap; (· iexact H6); ipureintro; dsimp only [dat0]
  isplitl [H7]; · iexists _; isplitr; swap; (· iexact H7); ipureintro; dsimp only [dat0]
  iexists _; isplitr; swap; (· iexact H8); ipureintro; dsimp only [dat0]

/-- Output array 0 of the router holds, at the end, what the body left in its staging buffer. -/
theorem final0_3 (c : Dev nD) : (dat0 m c).arrAt 3 cfg0.N = oDst (inX m c) (inG m c) (inB m c) := by
  refine Pipeline.Dat.arrAt_eq_of_after_last (dat0 m c) 3 t0_0 (by decide +kernel) (oDst (inX m c) (inG m c) (inB m c)) fun j => ?_
  dsimp only [dat0]
  generalize oDst (inX m c) (inG m c) (inB m c) = g
  rfl
/-- Output array 1 of the router holds, at the end, what the body left in its staging buffer. -/
theorem final0_4 (c : Dev nD) : (dat0 m c).arrAt 4 cfg0.N = oWw (inX m c) (inG m c) (inB m c) := by
  refine Pipeline.Dat.arrAt_eq_of_after_last (dat0 m c) 4 t0_0 (by decide +kernel) (oWw (inX m c) (inG m c) (inB m c)) fun j => ?_
  dsimp only [dat0]
  generalize oWw (inX m c) (inG m c) (inB m c) = g
  rfl
/-- Output array 2 of the router holds, at the end, what the body left in its staging buffer. -/
theorem final0_5 (c : Dev nD) : (dat0 m c).arrAt 5 cfg0.N = oBe (inX m c) (inG m c) (inB m c) := by
  refine Pipeline.Dat.arrAt_eq_of_after_last (dat0 m c) 5 t0_0 (by decide +kernel) (oBe (inX m c) (inG m c) (inB m c)) fun j => ?_
  dsimp only [dat0]
  generalize oBe (inX m c) (inG m c) (inB m c) = g
  rfl
/-- Output array 3 of the router holds, at the end, what the body left in its staging buffer. -/
theorem final0_6 (c : Dev nD) : (dat0 m c).arrAt 6 cfg0.N = oUsed (inX m c) (inG m c) (inB m c) := by
  refine Pipeline.Dat.arrAt_eq_of_after_last (dat0 m c) 6 t0_0 (by decide +kernel) (oUsed (inX m c) (inG m c) (inB m c)) fun j => ?_
  dsimp only [dat0]
  generalize oUsed (inX m c) (inG m c) (inB m c) = g
  rfl
/-- Output array 4 of the router holds, at the end, what the body left in its staging buffer. -/
theorem final0_7 (c : Dev nD) : (dat0 m c).arrAt 7 cfg0.N = oUsage (inX m c) (inG m c) (inB m c) := by
  refine Pipeline.Dat.arrAt_eq_of_after_last (dat0 m c) 7 t0_0 (by decide +kernel) (oUsage (inX m c) (inG m c) (inB m c)) fun j => ?_
  dsimp only [dat0]
  generalize oUsage (inX m c) (inG m c) (inB m c) = g
  rfl
/-- Output array 5 of the router holds, at the end, what the body left in its staging buffer. -/
theorem final0_8 (c : Dev nD) : (dat0 m c).arrAt 8 cfg0.N = oLbl (inX m c) (inG m c) (inB m c) := by
  refine Pipeline.Dat.arrAt_eq_of_after_last (dat0 m c) 8 t0_0 (by decide +kernel) (oLbl (inX m c) (inG m c) (inB m c)) fun j => ?_
  dsimp only [dat0]
  generalize oLbl (inX m c) (inG m c) (inB m c) = g
  rfl

/-- Every array of the router holds, at the end, what the valuation after it says. -/
theorem final0 (c : Dev nD) (w : Fin cfg0.W) : (dat0 m c).arrAt w cfg0.N = W2 m c (Pipeline.arrRef spec0 w) := by
  fin_cases w
  · exact ((dat0 m c).arrAt_in 0 rfl _).trans (W2_of m c main_v0 (by decide)).symm
  · exact ((dat0 m c).arrAt_in 1 rfl _).trans (W2_of m c main_arg1 (by decide)).symm
  · exact ((dat0 m c).arrAt_in 2 rfl _).trans (W2_of m c main_v1 (by decide)).symm
  · exact (final0_3 m c).trans (W2_dst m c).symm
  · exact (final0_4 m c).trans (W2_ww m c).symm
  · exact (final0_5 m c).trans (W2_be m c).symm
  · exact (final0_6 m c).trans (W2_used m c).symm
  · exact (final0_7 m c).trans (W2_usage m c).symm
  · exact (final0_8 m c).trans (W2_lbl m c).symm

end Cert.Proof.RunI

end
-- ==== Proof.RunI.Launch.lean ====
/-
  The run of the program: its two kernels as regions between the stretches of host operations, and what every run ends with.
-/
module

public import proofs.«01_k».proof.Proof.RunI.Final1
public import proofs.«01_k».proof.Proof.RunI.Region0

@[expose] public section

set_option maxRecDepth 16384

noncomputable section

namespace Cert.Proof.RunI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat RDat Cfg Window BodyObligationRel)

local notation "𝕄" => MT nD τ sig Unit (Elt F) ℕ UU ℕ

variable (m : (ℓ : Loc nD τ sig) → Buf (Elt F) ℓ) (ρ : Dev nD → PrngReg)

/-- The pipelines' algebra inside the certificate's. -/
abbrev EP : Emb (UR sig nD τ) (MT nD τ sig Unit (Elt F) ℕ UU ℕ) := embL
/-- No core owes another anything. -/
abbrev L : GSem nD τ sig → Finset Unit := fun _ => ∅
abbrev lv : GSem nD τ sig → Unit → ℕ := fun _ _ => 0
abbrev 𝒱₀ : Variants := Variants.none
/-- What rides beside the buffers. -/
abbrev R (c : Dev nD) : sProp 𝕄 := iprop(∃ W, owes (c : Thread nD τ) (0 : CellTallies nD τ sig Unit) W)
/-- The device's buffers held at a valuation. -/
abbrev heldAt (c : Dev nD) (W : Valuation τ sig (Elt F)) : sProp 𝕄 := StableHlo.held (c : Thread nD τ) (Pipeline.ucRefs τ sig) W

/-- The device's unscoped buffers at a valuation. -/
abbrev ub (c : Dev nD) (W : Valuation τ sig (Elt F)) : sProp 𝕄 := unscopedBufs c (fun b => W b)

/-- The second kernel's data over the program's state. -/
abbrev dd1 (c : Dev nD) : RDat τ (Elt F) Unit ℕ UU ℕ (cfg1 (adm1 m 0)) c := rd1 (adm1 m 0) c (fun b => W3 m c b)

/-- The two kernels' proof data. -/
def rdats : (p : Fin 2) → (c : Dev nD) → RDat τ (Elt F) Unit ℕ UU ℕ (Pipeline.pin (pcfgs (F := F)) (adm m) p) c
  | ⟨0, _⟩ => fun c => (dat0 m c).toR
  | ⟨1, _⟩ => fun c => dd1 m c

/-- What is known of the second kernel's result. -/
def Res (o : FVec F S2048x1024 .f32) : Prop := act (adm1 m 0) (p0 (adm1 m 0)) → o = acc (adm1 m 0) 0 (fun b => W3 m 0 b) 23

/-- The launch element. -/
def u₀ : UU := (initOf (Pipeline.cells (Pipeline.pin (pcfgs (F := F)) (adm m)) (cellOf_inj (adm m))) (Pipeline.launchToks (Pipeline.pin (pcfgs (F := F)) (adm m)) (cellOf_inj (adm m))), 1)

/-- The first host stretch. -/
def seg0 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (fun op h => (List.forall_iff_forall_mem.mp hostOps0_fresh) op h) (fun c => V0 m c) (fun c => R c)
/-- The second. -/
def seg2 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (fun op h => (List.forall_iff_forall_mem.mp hostOps1_fresh) op h) (fun c => W2 m c) (fun c => R c)
/-- The last, at one result of the second kernel. -/
def seg4at (o : FVec F S2048x1024 .f32) : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps2 (fun op h => Pipeline.sub_ucRefs op ((List.forall_iff_forall_mem.mp hostOps2_sub) op h))
    (fun op h => (List.forall_iff_forall_mem.mp hostOps2_fresh) op h) (fun c => W4 m c o) (fun c => R c)
/-- The last, at some result. -/
def seg4 : Pipeline.HostSeg (Ix := Unit) (Name := ℕ) (U := UU) (Lvl := ℕ) (pcfgs (F := F)) defs₀ 𝒱₀ L lv where
  prog := StableHlo.seq hostOps2
  pre c := iprop(∃ o, ⌜Res m o⌝ ∗ heldAt c (W4 m c o) ∗ R c)
  post c := iprop(∃ o, ⌜Res m o⌝ ∗ heldAt c (W5 m c o) ∗ R c)
  run c {β} k K := by
    iintro ⟨Hk, Hb, ⟨%o, %ho, Hh, HR⟩, HL⟩
    iapply ((seg4at m o).run c k K)
    isplitl [Hk]
    · iintro ⟨Hb, Hp⟩
      iapply Hk
      isplitl [Hb]; · iexact Hb
      iexists o
      isplitr; · ipureintro; exact ho
      iapply (Entails.of_eq (show (seg4at m o).post c = iprop(heldAt c (W5 m c o) ∗ R c) from rfl)); iexact Hp
    isplitl [Hb]; · iexact Hb
    isplitl [Hh HR]
    · iapply (Entails.of_eq (show iprop(heldAt c (W4 m c o) ∗ R c) = (seg4at m o).pre c from rfl))
      isplitl [Hh]; · iexact Hh
      iexact HR
    iexact HL

/-- Both kernels' exact data. -/
def dats : (p : Fin 2) → (c : Dev nD) → Dat τ (Elt F) Unit ℕ UU ℕ (Pipeline.pin (pcfgs (F := F)) (adm m) p) c
  | ⟨0, _⟩ => fun c => dat0 m c
  | ⟨1, _⟩ => fun c => dat1 (adm1 m 0) c (fun b => W3 m c b)

/-- The buffers the router writes are arrays of its windows. -/
theorem outs0 : ∀ b : Ref sig .tc, b ∈ ([main_v2_0, main_v2_1, main_v2_2, main_v2_3, main_v2_4, main_v2_5] : List (Ref sig .tc)) → b ∈ Finset.univ.image (Pipeline.arrRef spec0) := by
  decide

set_option backward.isDefEq.respectTransparency.types false in
/-- The router's region. -/
def reg0 : RDat.RegionSeg (pcfgs (F := F)) (adm m) (rdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (obligation0 m c).loose.toR
  hwaits := Pipeline.RDat.hwaits_of_owed_zero (pcfgs (F := F)) (adm m) (rdats m) () L lv 0 fun _ _ => rfl
  pre c := iprop(ub c (V1 m c) ∗ R c)
  post c := iprop(ub c (W2 m c) ∗ R c)
  X _ := BI.emp
  Y _ := BI.emp
  Z c := Pipeline.unscopedRest (Ix := Unit) (Name := ℕ) (U := UU) (Lvl := ℕ) spec0 c (fun b => V1 m c b)
  hentry c := by
    rw [Pipeline.ownSems0_none]
    have hsplit := Pipeline.RDat.arrays_of_unscopedBufs (p := 0) (pcfgs (F := F)) (adm m) (rdats m) (launch0 (F := F)).win (launch0 (F := F)).arr_whole c
      ((rdats m 0 c).share_full fun _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats m 0 c).Φ 0 = Φ0 c from rfl]
    iintro ⟨-, -, Hr⟩; iexact Hr
  hout c := by
    rw [Pipeline.ownSems0_none, show (rdats m 0 c).Φ (Fin.last _) = Φ0 c from rfl]
    iintro Hr
    isplitr; · iempintro
    isplitr; · iempintro
    iexact Hr
  hexit c := by
    have hjoin := Pipeline.unscopedBufs_of_arrays (p := 0) (pcfgs (F := F)) (adm m) (Ix := Unit) (Name := ℕ) (U := UU) (Lvl := ℕ) (launch0 (F := F)).win (launch0 (F := F)).arr_whole c
      (dats m) ((dats m 0 c).share_full fun _ => rfl) (fun b => V1 m c b) (fun b => W2 m c b) ((dats m 0 c).arrAt · cfg0.N)
      (fun w => final0 m c w)
      (fun b hb => W2_of m c b fun h => hb (outs0 b h))
    iintro ⟨Ha, HO, -, Hrest⟩
    imodintro
    isplitl [Ha Hrest]
    · iapply hjoin; isplitl [Ha]
      · iapply ((dat0 m c).toR_arraysAt_post _); iexact Ha
      iexact Hrest
    unfold Pipeline.RDat.owesAt Pipeline.owesWithin
    icases HO with ⟨%W, -, HO⟩; iexists W; iexact HO

/-- The tables' buffers, held, are the two tables. -/
theorem pref_eq (c : Dev nD) (T : pre1.Contents (Elt F)) :
    (Pipeline.prefHeld (Ix := Unit) (Name := ℕ) (U := UU) (Lvl := ℕ) pre1 c (fun _ => fullShare) T : sProp 𝕄)
      = iprop(pt c (Memref.whole main_v5) (T 0) ∗ pt c (Memref.whole main_v6) (T 1)) := by
  unfold Pipeline.prefHeld
  exact bigSep_univ_eq_bigSepL [0, 1] (by decide) (by decide) _

/-- The second kernel's output is an array of its windows. -/
theorem out9 : main_v9 ∈ Finset.univ.image (Pipeline.arrRef spec1) := by decide

/-- The buffers beside the second kernel's are as it found them. -/
theorem rest_eq (c : Dev nD) (o : FVec F S2048x1024 .f32) : (Pipeline.unscopedRestP (Ix := Unit) (Name := ℕ) (U := UU) (Lvl := ℕ) pre1 spec1 c (fun b => W3 m c b) : sProp 𝕄)
    = Pipeline.unscopedRestP (Ix := Unit) (Name := ℕ) (U := UU) (Lvl := ℕ) pre1 spec1 c (fun b => W4 m c o b) := by
  unfold Pipeline.unscopedRestP
  refine bigSep_congr fun b hb => ?_
  dsimp only
  rw [W4_of m c o b fun h => ?_]
  subst h
  exact (Finset.mem_sdiff.mp (Finset.mem_sdiff.mp hb).1).2 out9

/-- The tables are as it found them. -/
theorem tabs_eq (c : Dev nD) (o : FVec F S2048x1024 .f32) : (Pipeline.prefHeld (Ix := Unit) (Name := ℕ) (U := UU) (Lvl := ℕ) pre1 c (fun _ => fullShare) (fun k => W4 m c o (Proc.devRef .tc (pre1.ref k))) : sProp 𝕄) = tables (adm1 m 0) c := by
  obtain rfl := dev_eq c
  have hk : ∀ k, pre1.ref k ≠ main_v9 := by decide
  have h : (fun k => W4 m 0 o (Proc.devRef .tc (pre1.ref k))) = tabs m 0 := funext fun k => W4_of m 0 o (pre1.ref k) (hk k)
  rw [h, pref_eq]
  rfl

set_option maxHeartbeats 1000000 in
set_option backward.isDefEq.respectTransparency.types false in
/-- The second kernel's region. -/
def reg1 : RDat.RegionSeg (pcfgs (F := F)) (adm m) (rdats m) () defs₀ 𝒱₀ L lv 1 where
  win := (launch₀1 (F := F)).win
  block_pos := (launch₀1 (F := F)).block_pos
  stage_whole := (launch₀1 (F := F)).stage_whole
  K := PEmpty
  osem k := k.elim
  ho := Pipeline.OwnSemFacts.none _
  hbody c := (obligation1 (adm1 m 0) c (fun b => W3 m c b)).toRRel
  hwaits := Pipeline.RDat.hwaits_of_owed_zero (pcfgs (F := F)) (adm m) (rdats m) () L lv 1 fun _ _ => rfl
  pre c := iprop(ub c (W3 m c) ∗ R c)
  post c := iprop(∃ o, ⌜Res m o⌝ ∗ ub c (W4 m c o) ∗ R c)
  X _ := BI.emp
  Y c := tables (adm1 m 0) c
  Z c := Pipeline.unscopedRestP (Ix := Unit) (Name := ℕ) (U := UU) (Lvl := ℕ) pre1 spec1 c (fun b => W3 m c b)
  hentry c := by
    rw [Pipeline.ownSems0_none]
    have hsplit := Pipeline.unscopedBufs_split₀ (Ix := Unit) (Name := ℕ) (U := UU) (Lvl := ℕ) (Pipeline.pin (pcfgs (F := F)) (adm m)) 1 (launch₀1 (F := F)).win.arr_unscoped c (fun b => W3 m c b)
    have hrest := Pipeline.unscopedRest_split (Ix := Unit) (Name := ℕ) (U := UU) (Lvl := ℕ) (launch₀1 (F := F)).pre c (fun b => W3 m c b)
    have harr := (dd1 m c).arrBufs_eq_arrays (launch₀1 (F := F)).sharedIn (launch₀1 (F := F)).arr_whole (fun _ _ => rfl) (fun b => W3 m c b) (dd1 m c).A fun _ => rfl
    obtain rfl := dev_eq c
    iintro ⟨⟨Hub, HO⟩, -, -⟩
    ihave H := (Entails.of_eq hsplit) $$ Hub
    icases H with ⟨Ha, Hrest⟩
    ihave Ha := (Entails.of_eq harr) $$ Ha
    ihave H := (Entails.of_eq hrest) $$ Hrest
    icases H with ⟨Ht, Hrest⟩
    imodintro
    isplitl [Ha]; · iexact Ha
    isplitl [Ht]; · iexact Ht
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats m 1 c).Φ 0 = iprop(tables (adm1 m 0) c ∗ others c ∗ scr (adm1 m 0) c 0) from rfl]
    have hs := scopedRest1_eq (Ix := Unit) (Val := Elt F) (Name := ℕ) (U := UU) (Lvl := ℕ) c
    have ht := pref_eq (F := F) c (adm1 m 0).1
    iintro ⟨-, Ht, Hr⟩
    ihave Hr := (Entails.of_eq hs) $$ Hr
    icases Hr with ⟨H0, H1, H2, H3, H4, H5, H6, H7, H8, ⟨%fs, Hs⟩⟩
    isplitl [Ht]; · unfold tables; iapply (Entails.of_eq ht); iexact Ht
    isplitr [Hs]
    · unfold others
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    unfold scr
    iexists fs
    isplitr; · ipureintro; exact fun h => absurd rfl h
    iexact Hs
  hout c := by
    rw [Pipeline.ownSems0_none, show (rdats m 1 c).Φ (Fin.last _) = iprop(tables (adm1 m 0) c ∗ others c ∗ scr (adm1 m 0) c (cfg1 (adm1 m 0)).N) from rfl]
    have hs := scopedRest1_eq (Ix := Unit) (Val := Elt F) (Name := ℕ) (U := UU) (Lvl := ℕ) c
    unfold others scr
    iintro ⟨Ht, ⟨H0, H1, H2, H3, H4, H5, H6, H7, H8⟩, ⟨%fs, -, Hs⟩⟩
    isplitl [Ht]; · iexact Ht
    isplitr; · iempintro
    iapply (Entails.of_eq hs.symm)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists fs; iexact Hs
  hexit c := by
    have hsplit := fun o => Pipeline.unscopedBufs_split₀ (Ix := Unit) (Name := ℕ) (U := UU) (Lvl := ℕ) (Pipeline.pin (pcfgs (F := F)) (adm m)) 1 (launch₀1 (F := F)).win.arr_unscoped c (fun b => W4 m c o b)
    have hrest := fun o => Pipeline.unscopedRest_split (Ix := Unit) (Name := ℕ) (U := UU) (Lvl := ℕ) (launch₀1 (F := F)).pre c (fun b => W4 m c o b)
    have harr : ((rdats m 1 c).arraysAt (Pipeline.pin (pcfgs (F := F)) (adm m) 1).N : sProp 𝕄) ⊢ iprop(∃ o : FVec F S2048x1024 .f32, ⌜act (adm1 m 0) (p0 (adm1 m 0)) → o = acc (adm1 m 0) c (fun b => W3 m c b) 23⌝ ∗ Pipeline.arrBufs spec1 c (fun b => W4 m c o b)) := arrays_out (adm1 m 0) c (fun b => W3 m c b) (fun o b => W4 m c o b) (fun o => W4_out m c o) (fun o b hb => W4_of m c o b hb)
    have hP := rest_eq m c
    have hT := tabs_eq m c
    iintro ⟨Ha, HO, Ht, Hrest⟩
    ihave Ha := harr $$ Ha
    icases Ha with ⟨%o, %ho, Ha⟩
    imodintro
    iexists o
    isplitr; · ipureintro; obtain rfl := dev_eq c; exact ho
    isplitl [Ha Ht Hrest]
    · iapply (Entails.of_eq (hsplit o).symm)
      isplitl [Ha]; · iexact Ha
      iapply (Entails.of_eq (hrest o).symm)
      isplitl [Ht]
      · iapply (Entails.of_eq (hT o).symm); iexact Ht
      iapply (Entails.of_eq (hP o)); iexact Hrest
    unfold Pipeline.RDat.owesAt Pipeline.owesWithin
    icases HO with ⟨%W, -, HO⟩; iexists W; iexact HO

end Cert.Proof.RunI

end
-- ==== Proof.RunI.Run.lean ====
/-
  What every run of the program ends with.
-/
module

public import proofs.«01_k».proof.Proof.RunI.Launch
public import Idealize.ShloMosaic.Lib.Claim

@[expose] public section

set_option maxRecDepth 16384

noncomputable section

namespace Cert.Proof.RunI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat RDat Cfg Window BodyObligationRel)

local notation "𝕄" => MT nD τ sig Unit (Elt F) ℕ UU ℕ

variable (m : (ℓ : Loc nD τ sig) → Buf (Elt F) ℓ) (ρ : Dev nD → PrngReg)

/-- The program's segments. -/
def segs (_ : Dev nD) : List (RDat.Seg (pcfgs (F := F)) (adm m) (rdats m) () defs₀ 𝒱₀ L lv) :=
  [.host (seg0 m), .region (reg0 m), .host (seg2 m), .region (reg1 m), .host (seg4 m)]

/-- What a final state holds: the arguments as launched, and the three results' buffers as the last host stretch leaves them over
    some result of the second kernel. -/
def Ends (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)
  ∧ ∃ o, Res m o ∧ s.mem ((c : Thread nD τ).loc main_v10) = W5 m c o main_v10 ∧ s.mem ((c : Thread nD τ).loc main_v11) = W5 m c o main_v11
    ∧ s.mem ((c : Thread nD τ).loc main_v12) = W5 m c o main_v12

/-- The held buffers at the two ways of writing them. -/
theorem ub_held (c : Dev nD) (W : Valuation τ sig (Elt F)) : (ub c W : sProp 𝕄) = heldAt c W := Pipeline.unscopedBufs_held c W

/-- Every run terminates, in such a state, with every counter at zero. -/
theorem runs : θ_run defs (onTc (τ := τ) (main (F := F))) ⟨m, fun _ => 0, ρ⟩ (fun r => (∀ c : Dev nD, Ends m c r.2) ∧ r.2.sem = fun _ => 0) := by
  refine Pipeline.RDat.θ_run_regions_kit_dev_sems (pcfgs (F := F)) (adm m) (rdats m) () (cellOf_inj (adm m)) EP defs₀ 𝒱₀ L lv m ρ main
    (segs m)
    (fun c Q => by
      rewrite [main_chain c, RDat.Seg.run_eq_chain,
        show (segs m c).map RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, RDat.Seg.pipes_host, RDat.Seg.pipes_region, RDat.Seg.pipes_nil]; decide) (fun _ => 0) (fun _ _ => rfl)
    (fun _ => BI.emp) (u₀ m) ?hu
    (T₀ := fun c => iprop(heldAt c (V0 m c) ∗ R c))
    (Tₙ := fun c => iprop(∃ o, ⌜Res m o⌝ ∗ heldAt c (W5 m c o)))
    (hch := fun c => ⟨.rfl, sep_mono (Entails.of_eq (ub_held c _).symm) .rfl, sep_mono (Entails.of_eq (ub_held c _)) .rfl,
      sep_mono (Entails.of_eq (ub_held c _).symm) .rfl, ?h4, ?h5⟩)
    (hinit := ?hi) (QY := Ends m) (hfin := fun c s' => ?hf) (hQ := fun _ h hz => ⟨h, funext fun g => hz g (.inr (regions_no_unscoped g.2))⟩)
  case hu =>
    unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case h4 =>
    show iprop(∃ o, ⌜Res m o⌝ ∗ ub c (W4 m c o) ∗ R c) ⊢ iprop(∃ o, ⌜Res m o⌝ ∗ heldAt c (W4 m c o) ∗ R c)
    iintro ⟨%o, %ho, H, HR⟩
    iexists o
    isplitr; · ipureintro; exact ho
    isplitl [H]; · iapply (Entails.of_eq (ub_held c (W4 m c o))); iexact H
    iexact HR
  case h5 =>
    show iprop(∃ o, ⌜Res m o⌝ ∗ heldAt c (W5 m c o) ∗ R c) ⊢ iprop((∃ o, ⌜Res m o⌝ ∗ heldAt c (W5 m c o)) ∗ ∃ W, owes (c.tc : Thread nD τ) (0 : CellTallies nD τ sig Unit) W)
    iintro ⟨%o, %ho, H, HR⟩
    isplitl [H]
    · iexists o
      isplitr; · ipureintro; exact ho
      iexact H
    iexact HR
  case hi =>
    refine Pipeline.initEach L lv fun c => ?_
    rw [show unscopedBufs c (fun b => m ((c : Thread nD τ).loc b)) = heldAt c (V0 m c) from ub_held c (V0 m c)]
    iintro ⟨⟨Hh, -, HO, -, -, -⟩, -⟩
    imodintro
    isplitl [Hh]; · iexact Hh
    iexists ∅; iexact HO
  case hf =>
    unfold heldAt StableHlo.held
    iintro ⟨⟨%o, %ho, Hh⟩, HSI⟩
    ihave Hr := (pointsTo_read_all (Pipeline.ucRefs τ sig) (fun b => ((c : Thread nD τ).1, b)) (W5 m c o) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (W5_kept m c o main_arg0 (by decide) (by decide) (by decide) (by decide) (by decide)),
      (h (Proc.devRef .tc main_arg1) (Finset.mem_filter.mpr ⟨StableHlo.devRef_mem_tcRefs main_arg1, by decide⟩)).trans (W5_kept m c o main_arg1 (by decide) (by decide) (by decide) (by decide) (by decide)),
      (h (Proc.devRef .tc main_arg2) (Finset.mem_filter.mpr ⟨StableHlo.devRef_mem_tcRefs main_arg2, by decide⟩)).trans (W5_kept m c o main_arg2 (by decide) (by decide) (by decide) (by decide) (by decide)),
      (h (Proc.devRef .tc main_arg3) (Finset.mem_filter.mpr ⟨StableHlo.devRef_mem_tcRefs main_arg3, by decide⟩)).trans (W5_kept m c o main_arg3 (by decide) (by decide) (by decide) (by decide) (by decide)),
      (h (Proc.devRef .tc main_arg4) (Finset.mem_filter.mpr ⟨StableHlo.devRef_mem_tcRefs main_arg4, by decide⟩)).trans (W5_kept m c o main_arg4 (by decide) (by decide) (by decide) (by decide) (by decide)),
      (h (Proc.devRef .tc main_arg5) (Finset.mem_filter.mpr ⟨StableHlo.devRef_mem_tcRefs main_arg5, by decide⟩)).trans (W5_kept m c o main_arg5 (by decide) (by decide) (by decide) (by decide) (by decide)),
      (h (Proc.devRef .tc main_arg6) (Finset.mem_filter.mpr ⟨StableHlo.devRef_mem_tcRefs main_arg6, by decide⟩)).trans (W5_kept m c o main_arg6 (by decide) (by decide) (by decide) (by decide) (by decide)),
      o, ho, h (Proc.devRef .tc main_v10) (Finset.mem_filter.mpr ⟨StableHlo.devRef_mem_tcRefs main_v10, by decide⟩),
      h (Proc.devRef .tc main_v11) (Finset.mem_filter.mpr ⟨StableHlo.devRef_mem_tcRefs main_v11, by decide⟩),
      h (Proc.devRef .tc main_v12) (Finset.mem_filter.mpr ⟨StableHlo.devRef_mem_tcRefs main_v12, by decide⟩)⟩
    · iexact HSI

/-- The frame: every run ends, the arguments as launched and every counter at zero. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  Idealize.ShloMosaic.θ_run_mono (runs m ρ) fun r h => ⟨fun c => by
    obtain ⟨h0, h1, h2, h3, h4, h5, h6, -⟩ := h.1 c
    exact ⟨h0, h1, h2, h3, h4, h5, h6⟩, h.2⟩

end Cert.Proof.RunI

end
-- ==== Proof.Value.Soft.lean ====
/-
  The router's probabilities and its load-balancing loss: the kernel's and the reference's are the same.
-/
module

public import proofs.«01_k».proof.Proof.RunI.Router
public import proofs.«01_k».proof.Proof.Gen.ReferenceIdeal.Run
public import Idealize.ShloMosaic.Lib.Pointwise

@[expose] public section

set_option maxRecDepth 16384

noncomputable section

namespace Cert.Proof.Val

open Idealize.ShloMosaic
open Cert.ReferenceIdeal (τ sig main_arg0 main_arg1 main_arg2 main_arg3 main_arg4 main_arg5 main_arg6 S1x2048x8 S8 S_)
open Cert.ReferenceIdeal.Gen Cert.ReferenceIdeal.Value
open Cert.KernelIdeal (S2048x1024 S1024x8 S1x8 S2048x8 S1x1)
open Cert.KernelIdeal.Gen (k0_pay2 k0_pay13)

/-- The reference's arguments, as the kernel's router reads them. -/
structure Agree (V : Valuation τ sig (Elt Ideal)) (x : FVec Ideal S2048x1024 .f32) (wg : FVec Ideal S1024x8 .f32) (bg : FVec Ideal S1x8 .f32) : Prop where
  hx : ∀ (t : Fin 2048) (k : Fin 1024), V (Proc.devRef .tc main_arg0) (ix3 0 t k) = x (ix2 t k)
  hg : ∀ (k : Fin 1024) (e : Fin 8), V (Proc.devRef .tc main_arg1) (ix2 k e) = wg (ix2 k e)
  hb : ∀ e : Fin 8, V (Proc.devRef .tc main_arg2) (ix1 e) = bg (ix2 0 e)

variable {V : Valuation τ sig (Elt Ideal)} {x : FVec Ideal S2048x1024 .f32} {wg : FVec Ideal S1024x8 .f32} {bg : FVec Ideal S1x8 .f32}

/-- A token's score for an expert. -/
def score (x : FVec Ideal S2048x1024 .f32) (wg : FVec Ideal S1024x8 .f32) (bg : FVec Ideal S1x8 .f32) (t : Fin 2048) (e : Fin 8) : EReal :=
  (∑ k, x (ix2 t k) * wg (ix2 k e) : EReal) + bg (ix2 0 e)

/-- The greatest of a token's scores. -/
def peak (x : FVec Ideal S2048x1024 .f32) (wg : FVec Ideal S1024x8 .f32) (bg : FVec Ideal S1x8 .f32) (t : Fin 2048) : EReal :=
  Finset.fold max (Ideal.ofBits FTy.f32 0xFF800000#32) (score x wg bg t) Finset.univ

/-- A token's probability for an expert. -/
def prob (x : FVec Ideal S2048x1024 .f32) (wg : FVec Ideal S1024x8 .f32) (bg : FVec Ideal S1x8 .f32) (t : Fin 2048) (e : Fin 8) : EReal :=
  Ideal.div (Ideal.exp (score x wg bg t e - peak x wg bg t)) (∑ d, Ideal.exp (score x wg bg t d - peak x wg bg t))

/-- The kernel's probabilities. -/
theorem pay2_eq (t : Fin 2048) (e : Fin 8) : k0_pay2 (F := Ideal) x wg bg (ix2 t e) = prob x wg bg t e := by
  pointwise [k0_pay2]
  rfl

/-- The reference's scores. -/
theorem ref_score (h : Agree V x wg bg) (t : Fin 2048) (e : Fin 8) : res_main_v3 (F := Ideal) V (ix3 0 t e) = score x wg bg t e := by
  pointwise [res_main_v3]
  unfold score
  rw [h.hb e]
  refine congrArg (· + _) (Finset.sum_congr rfl fun k _ => ?_)
  rw [h.hx, h.hg]

/-- The reference's exponentials. -/
theorem ref_exp (h : Agree V x wg bg) (t : Fin 2048) (e : Fin 8) :
    res_main_v10 (F := Ideal) V (ix3 0 t e) = Ideal.exp (score x wg bg t e - peak x wg bg t) := by
  pointwise [res_main_v10]
  rw [ref_score h]
  have hf := Shape.ReducesTo.fold_fiber_r3_a2 reducesTo_S1x2048x8_S1x2048_d2 (ix2 0 t) (max : EReal → EReal → EReal) (Ideal.ofBits FTy.f32 4286578688#32) (res_main_v3 (F := Ideal) V)
  refine congrArg (fun z => Ideal.exp (_ - z)) ((max_eq_right ?_).trans (hf.trans ?_))
  · exact (Finset.le_fold_max _).mpr (Or.inl le_rfl)
  · unfold peak
    exact congrArg (fun f => Finset.fold max _ f Finset.univ) (funext fun k => ref_score h t k)

/-- The reference's probabilities. -/
theorem ref_prob (h : Agree V x wg bg) (t : Fin 2048) (e : Fin 8) : res_main_v14 (F := Ideal) V (ix3 0 t e) = prob x wg bg t e := by
  pointwise [res_main_v14]
  unfold prob
  rw [ref_exp h]
  exact congrArg (Ideal.div _) (Finset.sum_congr rfl fun k _ => ref_exp h t k)

/-- A sum over all tokens' probabilities of one expert, as the reference reduces it. -/
theorem sum_tokens (r : S1x2048x8.ReducesTo [0, 1] S8) (v : S1x2048x8.Idx → EReal) (e : Fin 8) :
    Ideal.hostReduceAdd r v 0 (ix1 e) = ∑ t : Fin 2048, v (ix3 0 t e) := by
  unfold Ideal.hostReduceAdd
  rw [zero_add]
  refine Finset.sum_filter_eq_sum_of_fiber _ (fun t : Fin 2048 => (ix3 0 t e : S1x2048x8.Idx)) (fun _ _ h => congrFun h 1) (fun i => ?_) v
  constructor
  · intro h
    refine ⟨i 1, ?_⟩
    funext a; apply Fin.ext
    match a with
    | ⟨0, _⟩ => exact (show (0 : ℕ) = (i 0).val from by have : (i 0).val < 1 := (i 0).isLt; omega)
    | ⟨1, _⟩ => rfl
    | ⟨2, _⟩ => exact (congrArg Fin.val (congrFun h 0)).symm
  · rintro ⟨k, rfl⟩
    funext b
    apply Fin.ext
    match b with
    | ⟨0, _⟩ => rfl

/-- The mean probability of an expert. -/
def mean (x : FVec Ideal S2048x1024 .f32) (wg : FVec Ideal S1024x8 .f32) (bg : FVec Ideal S1x8 .f32) (e : Fin 8) : EReal :=
  Ideal.div (∑ t, prob x wg bg t e) (Ideal.ofBits FTy.f32 1157627904#32)

theorem ref_mean (h : Agree V x wg bg) (e : Fin 8) : res_main_v248 (F := Ideal) V (ix1 e) = mean x wg bg e := by
  pointwise [res_main_v248]
  unfold mean
  refine congrArg (fun z => Ideal.div z _) ((sum_tokens _ _ e).trans (Finset.sum_congr rfl fun t _ => ref_prob h t e))

/-- How far an expert's mean probability is from the mean of all eight. -/
def dev (x : FVec Ideal S2048x1024 .f32) (wg : FVec Ideal S1024x8 .f32) (bg : FVec Ideal S1x8 .f32) (e : Fin 8) : EReal :=
  mean x wg bg e - Ideal.div (∑ d, mean x wg bg d) (Ideal.ofBits FTy.f32 1090519040#32)

theorem ref_dev (h : Agree V x wg bg) (e : Fin 8) : res_main_call9_v5 (F := Ideal) V (ix1 e) = dev x wg bg e := by
  pointwise [res_main_call9_v5]
  unfold dev
  rw [ref_mean h]
  exact congrArg (fun z => _ - Ideal.div z _) (Finset.sum_congr rfl fun d _ => ref_mean h d)

/-- The kernel's loss. -/
theorem pay13_eq : k0_pay13 (F := Ideal) (k0_pay2 x wg bg) (ix2 0 0) = Ideal.div (∑ e, dev x wg bg e * dev x wg bg e) (Ideal.ofBits FTy.f32 1088421888#32) := by
  pointwise [k0_pay13]
  simp only [pay2_eq]
  rfl

theorem ofBits_eight : Ideal.ofBits FTy.f32 1090519040#32 = ((8 : ℝ) : EReal) := by
  simp [Ideal.ofBits, Ideal.ieee, -EReal.coe_mul]; norm_num
theorem ofBits_seven : Ideal.ofBits FTy.f32 1088421888#32 = ((7 : ℝ) : EReal) := by
  simp [Ideal.ofBits, Ideal.ieee, -EReal.coe_mul]; norm_num

/-- Eight less one. -/
theorem ref_seven (i : S_.Idx) : res_main_call9_v8 (F := Ideal) V i = Ideal.ofBits FTy.f32 1088421888#32 := by
  pointwise [res_main_call9_v8]
  rw [ofBits_eight, ofBits_seven]
  show ((8 : ℝ) : EReal) - (((1#32 : BitVec 32).toInt : ℝ) : EReal) = _
  rw [show (1#32 : BitVec 32).toInt = 1 from by decide, ← EReal.coe_sub]
  norm_num

/-- The reference's loss. -/
theorem ref_loss (h : Agree V x wg bg) (i : S_.Idx) :
    (select (α := Ideal .f32) (s := S_) (cmpf (F := Ideal) (s := S_) (φ := .f32) .ogt (res_main_call9_v8 (F := Ideal) V) (constant S_ .f32 0x00000000#32))
      (Host.divf (F := Ideal) (s := S_) (φ := .f32) (Host.reduceAdd (F := Ideal) (s := S8) (φ := .f32) (mulf (F := Ideal) (s := S8) (φ := .f32) (res_main_call9_v5 V) (res_main_call9_v5 V)) (constant S_ .f32 0x00000000#32) reducesTo_S8_S_d0 h_S_) (res_main_call9_v8 V))
      (id (constant S_ .f32 0x7FC00000#32))) i = k0_pay13 (F := Ideal) (k0_pay2 x wg bg) (ix2 0 0) := by
  rw [pay13_eq]
  pointwise []
  have h7 := ref_seven (V := V) i
  have hpos : (0 : EReal) < res_main_call9_v8 (F := Ideal) V i := by
    rw [h7, ofBits_seven]
    exact EReal.coe_pos.mpr (by norm_num)
  rw [if_pos hpos]
  let f : Fin 8 → EReal := fun e => res_main_call9_v5 (F := Ideal) V (ix1 e)
  have hf : ∀ e, f e = dev x wg bg e := ref_dev h
  have hs : (∑ e, f e * f e) = ∑ e, dev x wg bg e * dev x wg bg e := Finset.sum_congr rfl fun e _ => by rw [hf e]
  exact congrArg₂ Ideal.div hs h7

end Cert.Proof.Val

end
-- ==== Proof.Value.Ends.lean ====
/-
  What the kernel's program leaves in its result buffers, and what its router reads, in terms of the arguments.
-/
module

public import proofs.«01_k».proof.Proof.RunI.Run
public import proofs.«01_k».proof.Proof.Value.Soft

@[expose] public section

set_option maxRecDepth 16384

noncomputable section

namespace Cert.Proof.Val

open Idealize.ShloMosaic Idealize.ShloMosaic.TcCoe Idealize.ShloMosaic.Tactic
open Cert.KernelIdeal Cert.KernelIdeal.Gen
open Cert.Proof.RunI

variable (m : (ℓ : Loc nD τ sig) → Buf (Elt Ideal) ℓ)

/-- The router reads the first argument reshaped. -/
theorem inX_eq (c : Dev nD) : inX m c = shapeCast S2048x1024 (m ((c : Thread nD τ).loc main_arg0) : FVec Ideal S1x2048x1024 .f32) shapeCasts_S1x2048x1024_S2048x1024 := by
  unfold inX V1
  simp only [StableHlo.after_cons, StableHlo.after_nil]
  after_results_loop
  rfl
/-- The router reads the third argument reshaped. -/
theorem inB_eq (c : Dev nD) : inB m c = shapeCast S1x8 (m ((c : Thread nD τ).loc main_arg2) : FVec Ideal S8 .f32) shapeCasts_S8_S1x8 := by
  unfold inB V1
  simp only [StableHlo.after_cons, StableHlo.after_nil]
  after_results_loop
  rfl

/-- The last host stretch reshapes the output, the shares and the loss. -/
theorem W5_out (c : Dev nD) (o : FVec Ideal S2048x1024 .f32) : W5 m c o main_v10 = shapeCast S1x2048x1024 o shapeCasts_S2048x1024_S1x2048x1024 := by
  rw [← W4_out m c o]; unfold W5
  simp only [StableHlo.after_cons, StableHlo.after_nil]
  after_results_loop
  rfl
@[inherit_doc W5_out] theorem W5_usage (c : Dev nD) (o : FVec Ideal S2048x1024 .f32) :
    W5 m c o main_v11 = shapeCast S8 (oUsage (inX m c) (inG m c) (inB m c)) shapeCasts_S1x8_S8 := by
  rw [← W2_usage, ← W3_of m c main_v2_4 (by decide), ← W4_of m c o main_v2_4 (by decide)]; unfold W5
  simp only [StableHlo.after_cons, StableHlo.after_nil]
  after_results_loop
  rfl
@[inherit_doc W5_out] theorem W5_lbl (c : Dev nD) (o : FVec Ideal S2048x1024 .f32) :
    W5 m c o main_v12 = shapeCast S_ (oLbl (inX m c) (inG m c) (inB m c)) shapeCasts_S1x1_S_ := by
  rw [← W2_lbl, ← W3_of m c main_v2_5 (by decide), ← W4_of m c o main_v2_5 (by decide)]; unfold W5
  simp only [StableHlo.after_cons, StableHlo.after_nil]
  after_results_loop
  rfl

/-- Rows read through the reshape that drops the leading 1. -/
theorem rows_at (y : FVec Ideal S1x2048x1024 .f32) (t : Fin 2048) (k : Fin 1024) :
    shapeCast S2048x1024 y shapeCasts_S1x2048x1024_S2048x1024 (ix2 t k) = y (ix3 0 t k) := by
  pointwise []
/-- A vector of eight read through the reshape that leads it by a 1. -/
theorem eight_at (y : FVec Ideal S8 .f32) (e : Fin 8) : shapeCast S1x8 y shapeCasts_S8_S1x8 (ix2 0 e) = y (ix1 e) := by
  pointwise []

/-- The loss read through the reshape that drops both dimensions. -/
theorem one_at (y : FVec Ideal S1x1 .f32) (i : S_.Idx) : shapeCast S_ y shapeCasts_S1x1_S_ i = y (ix2 0 0) := by
  pointwise []
/-- The shares read through the reshape that drops the leading 1. -/
theorem shares_at (y : FVec Ideal S1x8 .f32) (e : Fin 8) : shapeCast S8 y shapeCasts_S1x8_S8 (ix1 e) = y (ix2 0 e) := by
  pointwise []
/-- The output's rows read through the reshape that leads them by a 1. -/
theorem output_at (y : FVec Ideal S2048x1024 .f32) (t : Fin 2048) (d : Fin 1024) :
    shapeCast S1x2048x1024 y shapeCasts_S2048x1024_S1x2048x1024 (ix3 0 t d) = y (ix2 t d) := by
  pointwise []

variable (m' : (ℓ : Loc Cert.ReferenceIdeal.nD Cert.ReferenceIdeal.τ Cert.ReferenceIdeal.sig) → Buf (Elt Ideal) ℓ)

/-- Where the arguments agree, the reference's are the kernel's router's. -/
theorem agree (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    Agree (StableHlo.launchContents m' c) (inX m c) (inG m c) (inB m c) where
  hx t k := (congrFun h0 (ix3 0 t k)).trans ((congrFun (inX_eq m c) (ix2 t k)).trans (rows_at _ t k)).symm
  hg k e := (congrFun h1 (ix2 k e)).trans (congrFun (V1_of m c main_arg1 (by decide)).symm (ix2 k e))
  hb e := (congrFun h2 (ix1 e)).trans ((congrFun (inB_eq m c) (ix2 0 e)).trans (eight_at _ e)).symm

end Cert.Proof.Val

end
-- ==== Proof.Math.Top2.lean ====
/-
  The two greatest of eight numbers, the earlier place first among equals: what they are, that they exist, how a fold
  of maxima and a stable descending sort find them.
-/
module

public import Mathlib.Data.EReal.Basic
public import Idealize.ShloMosaic.Lib.SortPrefix

@[expose] public section

noncomputable section

namespace Cert.Proof.Math

/-- `k` is the first place among those that satisfy `q` at which `f` is greatest. -/
structure IsTop (f : Fin 8 → EReal) (q : Fin 8 → Prop) (k : Fin 8) : Prop where
  mem : q k
  le : ∀ j, q j → f j ≤ f k
  first : ∀ j, q j → j < k → f j < f k

/-- Among places of which there is one, there is a first at which `f` is greatest. -/
theorem exists_top (f : Fin 8 → EReal) (q : Fin 8 → Prop) (h : ∃ j, q j) : ∃ k, IsTop f q k := by
  classical
  obtain ⟨j0, hj0⟩ := h
  obtain ⟨m, hm, hle⟩ := (Finset.univ.filter q).exists_max_image f ⟨j0, by simp [hj0]⟩
  have hne : (Finset.univ.filter fun k => q k ∧ f m ≤ f k).Nonempty := ⟨m, by simpa using hm⟩
  obtain ⟨k, hk, hmin⟩ := (Finset.univ.filter fun k => q k ∧ f m ≤ f k).exists_min_image id hne
  simp only [Finset.mem_filter, Finset.mem_univ, true_and, id] at hm hk hmin hle
  refine ⟨k, hk.1, fun j hj => (hle j hj).trans hk.2, fun j hj hjk => lt_of_not_ge fun hge => ?_⟩
  exact absurd (hmin j ⟨hj, hk.2.trans hge⟩) (not_le.mpr hjk)

/-- Two such places are one. -/
theorem IsTop.unique {f : Fin 8 → EReal} {q : Fin 8 → Prop} {k l : Fin 8} (hk : IsTop f q k) (hl : IsTop f q l) : k = l := by
  rcases lt_trichotomy k l with h | h | h
  · exact absurd (hl.first k hk.mem h) (not_lt.mpr (hk.le l hl.mem))
  · exact h
  · exact absurd (hk.first l hl.mem h) (not_lt.mpr (hl.le k hk.mem))

/-- The first place of the greatest of eight numbers. -/
def k1 (f : Fin 8 → EReal) : Fin 8 := Classical.choose (exists_top f (fun _ => True) ⟨0, trivial⟩)

theorem k1_top (f : Fin 8 → EReal) : IsTop f (fun _ => True) (k1 f) := Classical.choose_spec (exists_top f (fun _ => True) ⟨0, trivial⟩)

theorem other_place (k : Fin 8) : ∃ j, j ≠ k := by
  by_cases h : k = 0
  · exact ⟨1, by subst h; decide⟩
  · exact ⟨0, fun e => h e.symm⟩

/-- The first place of the greatest of the other seven. -/
def k2 (f : Fin 8 → EReal) : Fin 8 := Classical.choose (exists_top f (fun j => j ≠ k1 f) (other_place _))

theorem k2_top (f : Fin 8 → EReal) : IsTop f (fun j => j ≠ k1 f) (k2 f) :=
  Classical.choose_spec (exists_top f (fun j => j ≠ k1 f) (other_place _))

theorem k2_ne (f : Fin 8 → EReal) : k2 f ≠ k1 f := (k2_top f).mem

/-- The greatest of eight numbers, as a fold of maxima. -/
theorem fold_max_top {f : Fin 8 → EReal} {k : Fin 8} (h : IsTop f (fun _ => True) k) :
    Finset.fold max ⊥ f Finset.univ = f k :=
  le_antisymm ((Finset.fold_max_le _).mpr ⟨bot_le, fun j _ => h.le j trivial⟩)
    ((Finset.le_fold_max _).mpr (Or.inr ⟨k, Finset.mem_univ k, le_rfl⟩))

/-- With the greatest masked by a number below all the others, the second place is the masked row's first. -/
theorem masked_top {f : Fin 8 → EReal} {z : EReal} (hz : ∀ j, z < f j) :
    IsTop (fun j => if j = k1 f then z else f j) (fun _ => True) (k2 f) := by
  have h2 := k2_top f
  refine ⟨trivial, fun j _ => ?_, fun j _ hj => ?_⟩
  · rw [if_neg (k2_ne f)]
    by_cases e : j = k1 f
    · rw [if_pos e]; exact (hz _).le
    · rw [if_neg e]; exact h2.le j e
  · rw [if_neg (k2_ne f)]
    by_cases e : j = k1 f
    · rw [if_pos e]; exact hz _
    · rw [if_neg e]; exact h2.first j e hj

open Idealize.ShloMosaic

/-- The stable sort looks at a pair only with the later element first: two relations that agree there sort alike. -/
theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Sorted with the greater first and equals in order, the first two come from the two top places. -/
theorem sorted_two (f : Fin 8 → EReal) (i : Fin 2) :
    sortedFrom (fun k k' : Fin 8 => decide (f k' < f k)) (i.castLE (by decide : 2 ≤ 8)) = ![k1 f, k2 f] i := by
  have hB := StrictTotalBefore.of_key_then_position (fun a b : EReal => decide (b < a)) f (fun a => by simp)
    (fun a b c hab hbc => by simp only [decide_eq_true_eq] at *; exact hbc.trans hab)
    (fun a b => by simp only [decide_eq_true_eq]; rcases lt_trichotomy a b with h | h | h <;> simp [h])
  have e : sortedFrom (fun k k' : Fin 8 => decide (f k' < f k))
      = sortedFrom (fun k k' : Fin 8 => decide (f k' < f k) || (decide (f k = f k') && decide (k < k'))) := by
    have hl : sortPositions 8 (fun k k' : Fin 8 => decide (f k' < f k))
        = sortPositions 8 (fun k k' : Fin 8 => decide (f k' < f k) || (decide (f k = f k') && decide (k < k'))) := by
      refine stableSort_congr_later _ _ _ (List.Pairwise.imp (fun {a b} hab => ?_) (List.pairwise_lt_finRange 8))
      rw [decide_eq_false (not_lt.mpr (le_of_lt hab)), Bool.and_false, Bool.or_false]
    funext k
    unfold sortedFrom
    rw [List.get_of_eq hl]
    rfl
  rw [e]
  have h1 := k1_top f
  have h2 := k2_top f
  have hne := k2_ne f
  refine hB.sortedFrom_eq_of_prefix (by decide) ![k1 f, k2 f] ?_ ?_ ?_ i
  · have hval : ∀ a b : Fin 2, ![k1 f, k2 f] a = ![k1 f, k2 f] b → a = b := by
      rw [Fin.forall_fin_two]
      refine ⟨?_, ?_⟩ <;> rw [Fin.forall_fin_two]
      · exact ⟨fun _ => rfl, fun h => absurd h.symm hne⟩
      · exact ⟨fun h => absurd h hne, fun _ => rfl⟩
    exact fun a b h => hval a b h
  · intro a b hab
    have ha : a = 0 := Fin.ext (by have := b.isLt; have : a.val < b.val := hab; show a.val = 0; omega)
    have hb : b = 1 := Fin.ext (by have := b.isLt; have : a.val < b.val := hab; show b.val = 1; omega)
    subst ha; subst hb
    show (decide (f (k1 f) < f (k2 f)) || (decide (f (k2 f) = f (k1 f)) && decide (k2 f < k1 f))) = false
    rw [decide_eq_false (not_lt.mpr (h1.le _ trivial)), Bool.false_or]
    by_cases e : f (k2 f) = f (k1 f)
    · rw [decide_eq_false (p := k2 f < k1 f) fun hlt => absurd (h1.first _ trivial hlt) (by rw [e]; exact lt_irrefl _), Bool.and_false]
    · rw [decide_eq_false e, Bool.false_and]
  · intro a p hp
    have hp1 : p ≠ k1 f := fun e => hp 0 e.symm
    have hp2 : p ≠ k2 f := fun e => hp 1 e.symm
    have key : ∀ k, f p ≤ f k → (p < k → f p < f k) →
        (decide (f k < f p) || (decide (f p = f k) && decide (p < k))) = false := by
      intro k hle hlt
      rw [decide_eq_false (not_lt.mpr hle), Bool.false_or]
      by_cases e : f p = f k
      · rw [decide_eq_false (p := p < k) fun h => absurd (hlt h) (by rw [e]; exact lt_irrefl _), Bool.and_false]
      · rw [decide_eq_false e, Bool.false_and]
    fin_cases a
    · exact key (k1 f) (h1.le p trivial) (h1.first p trivial)
    · exact key (k2 f) (h2.le p hp1) (h2.first p hp1)

end Cert.Proof.Math

end
-- ==== Proof.Math.Places.lean ====
/-
  The sorted order of the routed rows: 2048 tokens each choose two of eight experts; every expert's rows lie together,
  its count rounded up to a multiple of 256. Where each choice goes, that no two go to one place, and which expert owns
  each block of 256 places.
-/
module

public import Mathlib.Algebra.BigOperators.Group.Finset.Basic
public import Mathlib.Algebra.BigOperators.Fin
public import Mathlib.Algebra.Order.BigOperators.Group.Finset
public import Mathlib.Data.Fintype.BigOperators
public import Mathlib.Tactic.Ring

@[expose] public section

namespace Cert.Proof.Math

variable (a b : Fin 2048 → Fin 8)

/-- How often token `t` chooses expert `e`. -/
def pick (t : Fin 2048) (e : Fin 8) : ℕ := (if e = a t then 1 else 0) + if e = b t then 1 else 0

/-- How many choices of expert `e` come before token `t`. -/
def before (t : ℕ) (e : Fin 8) : ℕ := ∑ s : Fin 2048, if s.val < t then pick a b s e else 0

/-- How many choices expert `e` receives. -/
def total (e : Fin 8) : ℕ := ∑ s : Fin 2048, pick a b s e

/-- That many, rounded up to a multiple of 256, in blocks of 256. -/
def blocks (e : Fin 8) : ℕ := (total a b e + 255) / 256

/-- The first block of expert `e`. -/
def start (e : Fin 8) : ℕ := ∑ d : Fin 8, if d.val < e.val then blocks a b d else 0

/-- How many blocks there are. -/
def used : ℕ := ∑ e : Fin 8, blocks a b e

/-- The place of the choice of expert `e` by token `t`. -/
def place (t : Fin 2048) (e : Fin 8) : ℕ := 256 * start a b e + before a b t.val e

/-- The expert of block `g`: how many experts start at or before it, less one. -/
def owner (g : ℕ) : ℕ := (∑ e : Fin 8, if start a b e ≤ g then 1 else 0) - 1

variable {a b}

theorem before_succ_le {t t' : Fin 2048} (h : t < t') (e : Fin 8) : before a b t.val e + pick a b t e ≤ before a b t'.val e := by
  have h1 : pick a b t e = ∑ s : Fin 2048, if s = t then pick a b s e else 0 := by
    rw [Finset.sum_ite_eq' Finset.univ t, if_pos (Finset.mem_univ t)]
  rw [h1, before, before, ← Finset.sum_add_distrib]
  refine Finset.sum_le_sum fun s _ => ?_
  by_cases hs : s = t
  · subst hs
    have : s.val < t'.val := h
    rw [if_neg (lt_irrefl _), if_pos rfl, if_pos this, zero_add]
  · rw [if_neg hs, add_zero]
    by_cases hl : s.val < t.val
    · rw [if_pos hl, if_pos (lt_trans hl h)]
    · rw [if_neg hl]; exact Nat.zero_le _

theorem before_pick_le (t : Fin 2048) (e : Fin 8) : before a b t.val e + pick a b t e ≤ total a b e := by
  have h1 : pick a b t e = ∑ s : Fin 2048, if s = t then pick a b s e else 0 := by
    rw [Finset.sum_ite_eq' Finset.univ t, if_pos (Finset.mem_univ t)]
  rw [h1, before, total, ← Finset.sum_add_distrib]
  refine Finset.sum_le_sum fun s _ => ?_
  by_cases hs : s = t
  · subst hs
    rw [if_neg (lt_irrefl _), if_pos rfl, zero_add]
  · rw [if_neg hs, add_zero]
    by_cases hl : s.val < t.val
    · rw [if_pos hl]
    · rw [if_neg hl]; exact Nat.zero_le _

/-- A choice's place lies in its expert's blocks. -/
theorem place_lt {t : Fin 2048} {e : Fin 8} (h : 0 < pick a b t e) :
    256 * start a b e ≤ place a b t e ∧ place a b t e < 256 * (start a b e + blocks a b e) := by
  have h1 := before_pick_le (a := a) (b := b) t e
  unfold place blocks
  omega

theorem start_succ_le {e e' : Fin 8} (h : e < e') : start a b e + blocks a b e ≤ start a b e' := by
  have h1 : blocks a b e = ∑ s : Fin 8, if s = e then blocks a b s else 0 := by
    rw [Finset.sum_ite_eq' Finset.univ e, if_pos (Finset.mem_univ e)]
  rw [h1, start, start, ← Finset.sum_add_distrib]
  refine Finset.sum_le_sum fun s _ => ?_
  by_cases hs : s = e
  · subst hs
    rw [if_neg (lt_irrefl _), if_pos rfl, if_pos (show s.val < e'.val from h), zero_add]
  · rw [if_neg hs, add_zero]
    by_cases hl : s.val < e.val
    · rw [if_pos hl, if_pos (lt_trans hl h)]
    · rw [if_neg hl]; exact Nat.zero_le _

theorem start_blocks_le (e : Fin 8) : start a b e + blocks a b e ≤ used a b := by
  have h1 : blocks a b e = ∑ s : Fin 8, if s = e then blocks a b s else 0 := by
    rw [Finset.sum_ite_eq' Finset.univ e, if_pos (Finset.mem_univ e)]
  rw [h1, start, used, ← Finset.sum_add_distrib]
  refine Finset.sum_le_sum fun s _ => ?_
  by_cases hs : s = e
  · subst hs
    rw [if_neg (lt_irrefl _), if_pos rfl, zero_add]
  · rw [if_neg hs, add_zero]
    by_cases hl : s.val < e.val
    · rw [if_pos hl]
    · rw [if_neg hl]; exact Nat.zero_le _

/-- The block of a choice's place is its expert's, of the blocks in use. -/
theorem place_div {t : Fin 2048} {e : Fin 8} (h : 0 < pick a b t e) :
    start a b e ≤ place a b t e / 256 ∧ place a b t e / 256 < start a b e + blocks a b e ∧ place a b t e / 256 < used a b := by
  have h1 := place_lt h
  have h2 := start_blocks_le (a := a) (b := b) e
  omega

/-- The block of a choice's place is owned by its expert. -/
theorem owner_place {t : Fin 2048} {e : Fin 8} (h : 0 < pick a b t e) : owner a b (place a b t e / 256) = e.val := by
  obtain ⟨h1, h2, _⟩ := place_div h
  have h3 : ∀ d : Fin 8, start a b d ≤ place a b t e / 256 ↔ d ≤ e := by
    intro d
    rcases lt_trichotomy d e with hd | hd | hd
    · have := start_succ_le (a := a) (b := b) hd
      exact ⟨fun _ => hd.le, fun _ => by omega⟩
    · subst hd; exact ⟨fun _ => le_rfl, fun _ => h1⟩
    · have := start_succ_le (a := a) (b := b) hd
      exact ⟨fun hh => by omega, fun hh => absurd hd (not_lt.mpr hh)⟩
  unfold owner
  simp only [h3]
  have key : ∀ e : Fin 8, (∑ d : Fin 8, if d ≤ e then 1 else 0) - 1 = e.val := by decide +kernel
  exact key e

/-- Two choices at one place are one choice. -/
theorem place_inj {t t' : Fin 2048} {e e' : Fin 8} (h : 0 < pick a b t e) (h' : 0 < pick a b t' e')
    (hp : place a b t e = place a b t' e') : t = t' ∧ e = e' := by
  have he : e = e' := by
    have h1 := owner_place h
    have h2 := owner_place h'
    rw [hp, h2] at h1
    exact Fin.ext h1.symm
  subst he
  refine ⟨?_, rfl⟩
  unfold place at hp
  rcases lt_trichotomy t t' with hl | hl | hl
  · have := before_succ_le (a := a) (b := b) hl e; omega
  · exact hl
  · have := before_succ_le (a := a) (b := b) hl e; omega

theorem sum_pick (t : Fin 2048) : ∑ e : Fin 8, pick a b t e = 2 := by
  unfold pick
  rw [Finset.sum_add_distrib, Finset.sum_ite_eq', Finset.sum_ite_eq', if_pos (Finset.mem_univ _), if_pos (Finset.mem_univ _)]

theorem sum_total : ∑ e : Fin 8, total a b e = 4096 := by
  unfold total
  rw [Finset.sum_comm, Finset.sum_congr rfl fun t _ => sum_pick t, Finset.sum_const, Finset.card_univ, Fintype.card_fin, smul_eq_mul]

theorem pick_le (t : Fin 2048) (e : Fin 8) : pick a b t e ≤ 2 := by
  unfold pick; split <;> split <;> omega

theorem total_le (e : Fin 8) : total a b e ≤ 4096 := by
  rw [← sum_total (a := a) (b := b)]
  exact Finset.single_le_sum (fun _ _ => Nat.zero_le _) (Finset.mem_univ e)

theorem before_le (t : ℕ) (e : Fin 8) : before a b t e ≤ total a b e := by
  refine Finset.sum_le_sum fun s _ => ?_
  split
  · exact le_rfl
  · exact Nat.zero_le _

/-- Eight counts that sum to 4096, each rounded up to blocks of 256: between 1 and 23 blocks. -/
theorem round_bounds (T B : Fin 8 → ℕ) (h : ∀ e, 256 * B e ≤ T e + 255 ∧ T e ≤ 256 * B e) (hs : ∑ e, T e = 4096) :
    0 < ∑ e, B e ∧ ∑ e, B e < 24 := by
  have h1 : 256 * ∑ e, B e ≤ 4096 + 8 * 255 := by
    rw [← hs, Finset.mul_sum]
    refine (Finset.sum_le_sum fun e _ => (h e).1).trans (le_of_eq ?_)
    rw [Finset.sum_add_distrib, Finset.sum_const, Finset.card_univ, Fintype.card_fin, smul_eq_mul]
  have h2 : 4096 ≤ 256 * ∑ e, B e := by
    rw [← hs, Finset.mul_sum]
    exact Finset.sum_le_sum fun e _ => (h e).2
  omega

/-- Fewer than 24 blocks are in use, and at least one. -/
theorem used_bounds : 0 < used a b ∧ used a b < 24 :=
  round_bounds (total a b) (blocks a b) (fun e => by unfold blocks; omega) sum_total

theorem start_le (e : Fin 8) : start a b e < 24 := by
  have := start_blocks_le (a := a) (b := b) e
  have := (used_bounds (a := a) (b := b)).2
  omega

theorem place_lt_8192 (t : Fin 2048) (e : Fin 8) : place a b t e < 24 * 256 + 4097 := by
  have h1 := start_le (a := a) (b := b) e
  have h2 := before_le (a := a) (b := b) t.val e
  have h3 := total_le (a := a) (b := b) e
  unfold place
  omega

theorem pick_first (t : Fin 2048) : 0 < pick a b t (a t) := by unfold pick; simp
theorem pick_second (t : Fin 2048) : 0 < pick a b t (b t) := by unfold pick; simp

end Cert.Proof.Math
-- ==== Proof.Value.Choice.lean ====
/-
  The kernel's choice of two of eight: the first and the second top place of a row of probabilities.
-/
module

public import proofs.«01_k».proof.Proof.Math.Top2
public import proofs.«01_k».proof.Proof.Math.Places
public import proofs.«01_k».proof.Proof.Value.Soft

@[expose] public section

set_option maxRecDepth 16384

noncomputable section

namespace Cert.Proof.Val

open Idealize.ShloMosaic Cert.Proof.Math
open Cert.KernelIdeal (S2048x1024 S1024x8 S1x8 S2048x8 S1x1)
open Cert.KernelIdeal.Gen
open Cert.Proof.RunI (rOhs oUsage oWw)

variable {x : FVec Ideal S2048x1024 .f32} {wg : FVec Ideal S1024x8 .f32} {bg : FVec Ideal S1x8 .f32}

/-- A token's first expert. -/
def c1 (x : FVec Ideal S2048x1024 .f32) (wg : FVec Ideal S1024x8 .f32) (bg : FVec Ideal S1x8 .f32) (t : Fin 2048) : Fin 8 := k1 (prob x wg bg t)
/-- A token's second expert. -/
def c2 (x : FVec Ideal S2048x1024 .f32) (wg : FVec Ideal S1024x8 .f32) (bg : FVec Ideal S1x8 .f32) (t : Fin 2048) : Fin 8 := k2 (prob x wg bg t)

/-- Every probability is above the number that masks the first choice. -/
def Above (x : FVec Ideal S2048x1024 .f32) (wg : FVec Ideal S1024x8 .f32) (bg : FVec Ideal S1x8 .f32) : Prop :=
  ∀ t e, Ideal.ofBits FTy.f32 3212836864#32 < prob x wg bg t e

/-- The least of the places marked, as a fold of minima. -/
theorem fold_first : ∀ (q : Fin 8 → Bool) (k : Fin 8), q k = true → (∀ e, e < k → q e = false) →
    Finset.fold IntOp.minsi (2147483647#32) (fun e : Fin 8 => if q e = true then BitVec.ofNat 32 e.val else 8#32) Finset.univ = BitVec.ofNat 32 k.val := by
  decide +kernel

/-- The first place at which a row has its greatest number, as the kernel finds it. -/
theorem fold_top (f : Fin 8 → EReal) (k : Fin 8) (h : IsTop f (fun _ => True) k) (z : EReal) (hz : z = f k) :
    Finset.fold IntOp.minsi (2147483647#32) (fun e : Fin 8 => if f e = z then BitVec.ofNat 32 e.val else 8#32) Finset.univ = BitVec.ofNat 32 k.val := by
  subst hz
  refine Eq.trans ?_ (fold_first (fun e => decide (f e = f k)) k (decide_eq_true rfl) fun e he => decide_eq_false (h.first e trivial he).ne)
  simp only [decide_eq_true_eq]

/-- Comparing two experts' numbers. -/
theorem cmpi_experts : ∀ e k : Fin 8, IntOp.cmpi .eq (BitVec.ofNat 32 e.val) (BitVec.ofNat 32 k.val) = BitVec.ofBool (decide (e = k)) := by
  decide +kernel

/-- A mark as a number: one or zero. -/
theorem mark (p : Prop) [Decidable p] : FloatOps.sitofp (F := Ideal) FTy.f32 (BitVec.setWidth 32 (BitVec.ofBool (decide p))) = (((if p then 1 else 0 : ℕ) : ℝ) : EReal) := by
  show (((BitVec.setWidth 32 (BitVec.ofBool (decide p))).toInt : ℝ) : EReal) = _
  by_cases h : p
  · rw [decide_eq_true h, if_pos h, show (BitVec.setWidth 32 (BitVec.ofBool true)).toInt = 1 from by decide]; norm_num
  · rw [decide_eq_false h, if_neg h, show (BitVec.setWidth 32 (BitVec.ofBool false)).toInt = 0 from by decide]; norm_num

theorem ofBits_low : Ideal.ofBits FTy.f32 4286578688#32 = ⊥ := by
  simp [Ideal.ofBits, Ideal.ieee]

/-- The first choice's probability. -/
theorem pay3_eq (t : Fin 2048) : k0_pay3 (F := Ideal) x wg bg (ix2 t 0) = prob x wg bg t (c1 x wg bg t) := by
  pointwise [k0_pay3]
  rw [ofBits_low]
  simp only [pay2_eq]
  exact fold_max_top (k1_top _)

/-- The first choice. -/
theorem pay4_eq (t : Fin 2048) : k0_pay4 (F := Ideal) x wg bg (ix2 t 0) = BitVec.ofNat 32 (c1 x wg bg t).val := by
  pointwise [k0_pay4]
  simp only [pay2_eq]
  exact fold_top _ _ (k1_top _) _ (pay3_eq t)

/-- The first choice's mark. -/
theorem pay5_eq (t : Fin 2048) (e : Fin 8) : k0_pay5 (F := Ideal) x wg bg (ix2 t e) = (((if e = c1 x wg bg t then 1 else 0 : ℕ) : ℝ) : EReal) := by
  pointwise [k0_pay5]
  rw [pay4_eq, cmpi_experts, mark]

/-- The row with its first choice masked. -/
theorem pay6_eq (t : Fin 2048) (e : Fin 8) : k0_pay6 (F := Ideal) x wg bg (ix2 t e)
    = if e = k1 (prob x wg bg t) then Ideal.ofBits FTy.f32 3212836864#32 else prob x wg bg t e := by
  pointwise [k0_pay6]
  rw [pay4_eq, cmpi_experts, pay2_eq]
  unfold c1
  by_cases h : e = k1 (prob x wg bg t)
  · rw [if_pos h, decide_eq_true h]; rfl
  · rw [if_neg h, decide_eq_false h]; rfl

/-- The second choice's probability. -/
theorem pay7_eq (hz : Above x wg bg) (t : Fin 2048) : k0_pay7 (F := Ideal) x wg bg (ix2 t 0) = prob x wg bg t (c2 x wg bg t) := by
  pointwise [k0_pay7]
  rw [ofBits_low]
  simp only [pay6_eq]
  exact (fold_max_top (masked_top (hz t))).trans (if_neg (k2_ne _))

/-- The second choice's mark. -/
theorem pay8_eq (hz : Above x wg bg) (t : Fin 2048) (e : Fin 8) : k0_pay8 (F := Ideal) x wg bg (ix2 t e) = BitVec.ofBool (decide (e = c2 x wg bg t)) := by
  pointwise [k0_pay8]
  simp only [pay6_eq]
  rw [fold_top _ _ (masked_top (hz t)) _ ((pay7_eq hz t).trans (if_neg (k2_ne _)).symm)]
  exact cmpi_experts _ _

/-- Both choices' marks. -/
theorem ohs_eq (hz : Above x wg bg) (t : Fin 2048) (e : Fin 8) : rOhs (F := Ideal) x wg bg (ix2 t e)
    = ((pick (c1 x wg bg) (c2 x wg bg) t e : ℝ) : EReal) := by
  unfold rOhs
  pointwise [k0_pay11, k0_pay9]
  rw [pay5_eq, pay8_eq hz, mark, ← EReal.coe_add]
  unfold pick
  push_cast
  rfl

/-- The first weight. -/
theorem ww_fst (hz : Above x wg bg) (t : Fin 2048) : oWw (F := Ideal) x wg bg (ix2 t 0)
    = Ideal.div (prob x wg bg t (c1 x wg bg t)) (prob x wg bg t (c1 x wg bg t) + prob x wg bg t (c2 x wg bg t)) := by
  unfold oWw
  pointwise [k0_pay10]
  rw [pay3_eq, pay7_eq hz]

/-- The second weight. -/
theorem ww_snd (hz : Above x wg bg) (t : Fin 2048) : oWw (F := Ideal) x wg bg (ix2 t 1)
    = Ideal.div (prob x wg bg t (c2 x wg bg t)) (prob x wg bg t (c1 x wg bg t) + prob x wg bg t (c2 x wg bg t)) := by
  unfold oWw
  pointwise [k0_pay10]
  rw [pay3_eq, pay7_eq hz]

/-- A sum of naturals as extended reals. -/
theorem sum_nat {ι : Type} (s : Finset ι) (f : ι → ℕ) : (∑ i ∈ s, ((f i : ℝ) : EReal)) = ((∑ i ∈ s, f i : ℕ) : ℝ) := by
  classical
  induction s using Finset.induction_on with
  | empty => simp
  | insert a s ha ih => rw [Finset.sum_insert ha, Finset.sum_insert ha, ih, ← EReal.coe_add]; push_cast; rfl

/-- The kernel's share of each expert. -/
theorem usage_eq (hz : Above x wg bg) (e : Fin 8) : oUsage (F := Ideal) x wg bg (ix2 0 e)
    = Ideal.div ((total (c1 x wg bg) (c2 x wg bg) e : ℝ) : EReal) (Ideal.ofBits FTy.f32 1166016512#32) := by
  unfold oUsage
  pointwise [k0_pay12]
  refine congrArg₂ Ideal.div (Eq.trans (Finset.sum_congr rfl fun t _ => ohs_eq hz t e) ?_) rfl
  rw [total, ← sum_nat]

end Cert.Proof.Val

end
-- ==== Proof.Value.Finite.lean ====
/-
  From finite arguments, real scores; from real scores, probabilities that are not negative.
-/
module

public import proofs.«01_k».proof.Proof.Value.Choice
public import proofs.«01_k».proof.Pre_finite_router

@[expose] public section

set_option maxRecDepth 16384

noncomputable section

namespace Cert.Proof.Val

open Idealize.ShloMosaic Cert.Proof.Math
open Cert.KernelIdeal (S2048x1024 S1024x8 S1x8 S2048x8 S1x1)
open Cert.KernelIdeal.Gen

/-- A fold of conjunctions that holds began with what holds and met only what holds. -/
theorem all_of_fold {β : Type} (p : β → BitVec 1) : ∀ (l : List β) (r : BitVec 1), l.foldl (fun r n => IntOp.andi r (p n)) r = 1#1 → r = 1#1 ∧ ∀ n ∈ l, p n = 1#1
  | [], r, h => ⟨h, fun _ hn => absurd hn List.not_mem_nil⟩
  | a :: l, r, h => by
    obtain ⟨h1, h2⟩ := all_of_fold p l _ h
    have key : ∀ u v : BitVec 1, IntOp.andi u v = 1#1 → u = 1#1 ∧ v = 1#1 := by decide
    obtain ⟨h3, h4⟩ := key _ _ h1
    refine ⟨h3, fun n hn => ?_⟩
    rcases List.mem_cons.mp hn with rfl | hn
    · exact h4
    · exact h2 n hn

/-- A conjunction over a whole array that holds, holds everywhere. -/
theorem all_of_reduce {s : Shape} {axes : List (Fin s.rank)} (x : IVec s 1) (init : IVec Cert.Pre_finite_router.S_ 1)
    (h : s.ReducesTo axes Cert.Pre_finite_router.S_) (hu : 0 < Cert.Pre_finite_router.S_.numel) (j : Cert.Pre_finite_router.S_.Idx)
    (e : Host.reduce IntOp.andi x init h hu j = 1#1) (i : s.Idx) : x i = 1#1 := by
  have := (all_of_fold (fun n => x (s.rowMajor.symm n)) _ _ e).2 (s.rowMajor i) (List.mem_filter.mpr ⟨List.mem_finRange _, decide_eq_true (funext fun a => a.elim0)⟩)
  simpa using this

/-- What is less in size than infinity is a real. -/
theorem real_of_lt (x : EReal) (h : FloatOps.cmpf (F := Ideal) (φ := .f32) .olt (max x (-x)) (Ideal.ofBits FTy.f32 0x7F800000#32) = 1#1) : ∃ r : ℝ, x = (r : EReal) := by
  have htop : Ideal.ofBits FTy.f32 0x7F800000#32 = ⊤ := by simp [Ideal.ofBits, Ideal.ieee]
  rw [htop] at h
  have h' : max x (-x) < ⊤ := by
    by_contra hn
    exact absurd (show BitVec.ofBool (decide (max x (-x) < ⊤)) = 1#1 from h) (by rw [decide_eq_false hn]; decide)
  induction x with
  | bot => exact absurd h' (by simp)
  | top => exact absurd h' (by simp)
  | coe r => exact ⟨r, rfl⟩

section

open Cert.Pre_finite_router

/-- The precondition: the router's three arguments hold reals. -/
theorem reals_of_pre [Facts] {a0 : FVec Ideal S1x2048x1024 .f32} {a1 : FVec Ideal Cert.Pre_finite_router.S1024x8 .f32} {a2 : FVec Ideal S8 .f32} {a3 : FVec Ideal S8x1024x2048 .f32}
    {a4 : FVec Ideal S8x2048 .f32} {a5 : FVec Ideal S8x2048x1024 .f32} {a6 : FVec Ideal S8x1024 .f32} (h : fn a0 a1 a2 a3 a4 a5 a6 = fun _ => 1#1) :
    (∀ i, ∃ r : ℝ, a0 i = (r : EReal)) ∧ (∀ i, ∃ r : ℝ, a1 i = (r : EReal)) ∧ ∀ i, ∃ r : ℝ, a2 i = (r : EReal) := by
  have key : ∀ u v : BitVec 1, IntOp.andi u v = 1#1 → u = 1#1 ∧ v = 1#1 := by decide
  obtain ⟨h1, h2⟩ := key _ _ (congrFun h ix0)
  obtain ⟨h3, h4⟩ := key _ _ h1
  exact ⟨fun i => real_of_lt _ (all_of_reduce _ _ _ _ _ h3 i), fun i => real_of_lt _ (all_of_reduce _ _ _ _ _ h4 i), fun i => real_of_lt _ (all_of_reduce _ _ _ _ _ h2 i)⟩

end

/-- A sum of reals as extended reals. -/
theorem sum_real {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, ← EReal.coe_add]

variable {x : FVec Ideal S2048x1024 .f32} {wg : FVec Ideal S1024x8 .f32} {bg : FVec Ideal S1x8 .f32}

/-- Of real arguments the scores are real. -/
theorem score_real (hx : ∀ i, ∃ r : ℝ, x i = (r : EReal)) (hg : ∀ i, ∃ r : ℝ, wg i = (r : EReal)) (hb : ∀ i, ∃ r : ℝ, bg i = (r : EReal))
    (t : Fin 2048) (e : Fin 8) : ∃ r : ℝ, score x wg bg t e = (r : EReal) := by
  choose f hf using hx
  choose g hg using hg
  choose b hb using hb
  refine ⟨(∑ k, f (ix2 t k) * g (ix2 k e)) + b (ix2 0 e), ?_⟩
  unfold score
  rw [hb, EReal.coe_add, ← sum_real]
  refine congrArg (· + _) (Finset.sum_congr rfl fun k _ => ?_)
  rw [hf, hg, EReal.coe_mul]

theorem ofBits_minus_one : Ideal.ofBits FTy.f32 3212836864#32 = ((-1 : ℝ) : EReal) := by
  simp [Ideal.ofBits, Ideal.ieee, -EReal.coe_mul, -EReal.coe_neg]; norm_num

/-- Of real scores the probabilities are above the mask. -/
theorem above_of_real (h : ∀ t e, ∃ r : ℝ, score x wg bg t e = (r : EReal)) : Above x wg bg := by
  intro t e
  choose f hf using h t
  have hp : peak x wg bg t = (f (k1 (score x wg bg t)) : EReal) := by
    unfold peak
    rw [ofBits_low, ← hf]
    exact fold_max_top (k1_top _)
  have he : ∀ d, Ideal.exp (score x wg bg t d - peak x wg bg t) = ((Real.exp (f d - f (k1 (score x wg bg t))) : ℝ) : EReal) := fun d => by
    rw [hp, hf, ← EReal.coe_sub, Ideal.exp_coe]
  unfold prob
  simp only [he]
  rw [sum_real, Ideal.div_coe (Finset.sum_pos (fun d _ => Real.exp_pos _) Finset.univ_nonempty).ne', ← EReal.coe_mul, ofBits_minus_one]
  refine EReal.coe_lt_coe_iff.mpr (lt_of_lt_of_le (by norm_num : (-1 : ℝ) < 0) ?_)
  exact mul_nonneg (Real.exp_pos _).le (one_div_nonneg.mpr (Finset.sum_nonneg fun d _ => (Real.exp_pos _).le))

end Cert.Proof.Val

end
-- ==== Proof.Value.TopK.lean ====
/-
  The reference's choice of two of eight: the two top places of a row, and the row's numbers there.
-/
module

public import proofs.«01_k».proof.Proof.Math.Top2
public import proofs.«01_k».proof.Proof.Gen.ReferenceIdeal
public import Idealize.ShloMosaic.Lib.Pointwise

@[expose] public section

set_option maxRecDepth 16384

noncomputable section

namespace Cert.Proof.Val

open Idealize.ShloMosaic Cert.Proof.Math
open Cert.ReferenceIdeal (S1x2048x8 S1x2048x2)
open Cert.ReferenceIdeal.Gen

/-- The two top places of a row. -/
def tops (f : Fin 8 → EReal) (k : Fin 2) : Fin 8 := ![k1 f, k2 f] k

variable (x : FVec Ideal S1x2048x8 .f32)

/-- The place in its row that the sort by the greater puts at `k`. -/
theorem sorted_at (t : Fin 2048) (k : Fin 2) :
    sortedFrom (fun a b : Fin 8 => FloatOps.cmpfTotal (F := Ideal) (φ := .f32) .gt (x (ix3 0 t a)) (x (ix3 0 t b)) == 1#1) (k.castLE (by decide : 2 ≤ 8))
      = tops (fun e => x (ix3 0 t e)) k := by
  rw [sortedFrom_congr _ (fun a b : Fin 8 => decide ((x (ix3 0 t b) : EReal) < x (ix3 0 t a))) fun a b _ => ?_]
  · exact sorted_two (fun e => x (ix3 0 t e)) k
  · show (BitVec.ofBool (decide ((x (ix3 0 t b) : EReal) < x (ix3 0 t a))) == 1#1) = _
    generalize decide ((x (ix3 0 t b) : EReal) < x (ix3 0 t a)) = q
    cases q <;> rfl

/-- A row's index with its place replaced. -/
theorem along_ix (t : Fin 2048) (k a : Fin 8) : Shape.Idx.along (s := S1x2048x8) (ix3 0 t k) 2 a = ix3 0 t a := by
  funext d
  match d with
  | ⟨0, _⟩ => rfl
  | ⟨1, _⟩ => rfl
  | ⟨2, _⟩ => rfl

/-- A pair of arrays sorted along the rows by the first. -/
theorem sort2_at (y : IVec S1x2048x8 32) (j : S1x2048x8.Idx) :
    (Host.sort2 S1x2048x8 2 (fun l r => FloatOps.cmpfTotal (F := Ideal) (φ := .f32) .gt l.1 r.1) x y).1 j
      = x (j.along 2 (sortedFrom (fun a b : Fin 8 => FloatOps.cmpfTotal (F := Ideal) (φ := .f32) .gt (x (j.along 2 a)) (x (j.along 2 b)) == 1#1) (j 2)))
    ∧ (Host.sort2 S1x2048x8 2 (fun l r => FloatOps.cmpfTotal (F := Ideal) (φ := .f32) .gt l.1 r.1) x y).2 j
      = y (j.along 2 (sortedFrom (fun a b : Fin 8 => FloatOps.cmpfTotal (F := Ideal) (φ := .f32) .gt (x (j.along 2 a)) (x (j.along 2 b)) == 1#1) (j 2))) :=
  ⟨rfl, rfl⟩

/-- The first two of eight places, read in the sorted row. -/
theorem slice_at {α : Type} (y : S1x2048x8.Idx → α) (t : Fin 2048) (k : Fin 2) :
    extractStridedSlice S1x2048x2 (fun _ => 0) y sliceFits_S1x2048x8_S1x2048x2 (ix3 0 t k) = y (ix3 0 t (k.castLE (by decide : 2 ≤ 8))) := by
  refine congrArg y ?_
  funext d
  apply Fin.ext
  match d with
  | ⟨0, _⟩ => rfl
  | ⟨1, _⟩ => exact Nat.zero_add _
  | ⟨2, _⟩ => exact Nat.zero_add _

/-- Every entry of a row beside its place. -/
def places : IVec S1x2048x8 32 := fun i => if hd : 2 < S1x2048x8.rank then iotaInDim S1x2048x8 32 ⟨2, hd⟩ i else 0#32

/-- The numbers kept are the row's at its two top places. -/
theorem topK_fst (t : Fin 2048) (k : Fin 2) :
    (Host.topK S1x2048x2 2 (FloatOps.cmpfTotal (F := Ideal) (φ := .f32) .gt) x sliceFits_S1x2048x8_S1x2048x2).1 (ix3 0 t k)
      = x (ix3 0 t (tops (fun e => x (ix3 0 t e)) k)) := by
  rw [← sorted_at]
  refine (slice_at (Host.sort2 S1x2048x8 2 (fun l r => FloatOps.cmpfTotal (F := Ideal) (φ := .f32) .gt l.1 r.1) x places).1 t k).trans ((sort2_at x places _).1.trans ?_)
  simp only [along_ix]
  exact congrArg x (along_ix t _ _)

/-- The indices kept are the two top places. -/
theorem topK_snd (t : Fin 2048) (k : Fin 2) :
    (Host.topK S1x2048x2 2 (FloatOps.cmpfTotal (F := Ideal) (φ := .f32) .gt) x sliceFits_S1x2048x8_S1x2048x2).2 (ix3 0 t k)
      = BitVec.ofNat 32 (tops (fun e => x (ix3 0 t e)) k).val := by
  rw [← sorted_at]
  refine (slice_at (Host.sort2 S1x2048x8 2 (fun l r => FloatOps.cmpfTotal (F := Ideal) (φ := .f32) .gt l.1 r.1) x places).2 t k).trans ((sort2_at x places _).2.trans ?_)
  simp only [along_ix]
  rfl

end Cert.Proof.Val

end
-- ==== Proof.Value.Bincount.lean ====
/-
  The reference's count of the choices of each expert, and from it the share of each.
-/
module

public import proofs.«01_k».proof.Proof.Value.Choice
public import proofs.«01_k».proof.Proof.Value.TopK
public import Idealize.ShloMosaic.Lib.Routing.OpsPair
public import Idealize.ShloMosaic.Lib.Routing.BitFacts

@[expose] public section

set_option maxRecDepth 16384

noncomputable section

namespace Cert.Proof.Val

open Idealize.ShloMosaic Idealize.ShloMosaic.Routing Cert.Proof.Math
open Cert.ReferenceIdeal (τ sig main_arg0 main_arg1 main_arg2 S1x2048x8 S8 S_ S4096 S4096x1 S2048x2 scatter_S8_S4096x1_S4096_n_0_0_1)
open Cert.ReferenceIdeal.Gen Cert.ReferenceIdeal.Value
open Cert.KernelIdeal (S2048x1024 S1024x8 S1x8 S2048x8 S1x1)

/-- A small number's word read signed is the number. -/
theorem toInt_small (n : ℕ) (h : n < 2 ^ 31) : (BitVec.ofNat 32 n).toInt = (n : Int) := by
  rw [BitVec.toInt_eq_toNat_cond, BitVec.toNat_ofNat, Nat.mod_eq_of_lt (by omega), if_pos (by omega)]

/-- Scattering ones by addition adds to each entry the number of updates that land there. -/
theorem scatter_ones {s si u : Shape} (d : ScatterDims s si u) (x : IVec s 32) (idx : IVec si 32) (upd : IVec u 32) (hu : ∀ k, upd k = 1#32) (i : s.Idx) :
    Host.scatter d IntOp.addi x idx upd i = x i + BitVec.ofNat 32 (∑ k : u.Idx, if d.resultIdx? k idx = some i then 1 else 0) := by
  have key : ∀ (l : List (Fin u.numel)) (x : IVec s 32),
      (l.foldl (fun r n => match d.resultIdx? (u.rowMajor.symm n) idx with
        | some i => fun i' => if i' = i then IntOp.addi (r i) (upd (u.rowMajor.symm n)) else r i'
        | none => r) x) i = x i + BitVec.ofNat 32 (l.map fun n => if d.resultIdx? (u.rowMajor.symm n) idx = some i then 1 else 0).sum := by
    intro l
    induction l with
    | nil => intro x; simp
    | cons n l ih =>
      intro x
      rw [List.foldl_cons, ih, List.map_cons, List.sum_cons, BitVec.ofNat_add, ← BitVec.add_assoc]
      refine congrArg (· + _) ?_
      cases hr : d.resultIdx? (u.rowMajor.symm n) idx with
      | none => simp
      | some p =>
        by_cases hp : i = p
        · subst hp
          rw [if_pos rfl]
          show (if i = i then IntOp.addi (x i) (upd _) else x i) = _
          rw [if_pos rfl, hu]; rfl
        · rw [if_neg fun q => hp (Option.some.inj q).symm]
          show (if i = p then _ else x i) = _
          rw [if_neg hp]; simp
  unfold Host.scatter
  refine (key _ x).trans ?_
  rw [← Fin.sum_univ_def, Equiv.sum_comp u.rowMajor.symm fun k => if d.resultIdx? k idx = some i then 1 else 0]

/-- An update of the count lands at the expert its index names. -/
theorem count_lands (idx : IVec S4096x1 32) (n : Fin 4096) (k e : Fin 8) (h : idx (ix2 n 0) = BitVec.ofNat 32 k.val) :
    scatter_S8_S4096x1_S4096_n_0_0_1.resultIdx? (ix1 n) idx = some (ix1 e) ↔ e = k := by
  rw [resultIdx?_eq_some]
  have h1 : scatter_S8_S4096x1_S4096_n_0_0_1.start (ix1 n) idx 0 = (k.val : Int) := by
    have h2 : scatter_S8_S4096x1_S4096_n_0_0_1.start (ix1 n) idx 0 = (idx (ix2 n 0)).toInt := by
      unfold ScatterDims.start
      rw [dif_pos (by decide)]
      refine congrArg (fun j => (idx j).toInt) ?_
      funext b
      match b with
      | ⟨0, _⟩ => rfl
      | ⟨1, _⟩ => rfl
    have h3 : ∀ k : Fin 8, (BitVec.ofNat 32 k.val).toInt = (k.val : Int) := by decide +kernel
    rw [h2, h, h3]
  have h4 : scatter_S8_S4096x1_S4096_n_0_0_1.window (ix1 n) 0 = 0 := rfl
  have h5 : (∀ a, scatter_S8_S4096x1_S4096_n_0_0_1.start (ix1 n) idx a + (scatter_S8_S4096x1_S4096_n_0_0_1.window (ix1 n) a : Int) = (((ix1 e : S8.Idx) a).val : Int))
      ↔ scatter_S8_S4096x1_S4096_n_0_0_1.start (ix1 n) idx 0 + (scatter_S8_S4096x1_S4096_n_0_0_1.window (ix1 n) 0 : Int) = (e.val : Int) :=
    ⟨fun h => h 0, fun h a => by match a with | ⟨0, _⟩ => exact h⟩
  rw [h5, h1, h4, Fin.ext_iff]
  omega

variable {V : Valuation τ sig (Elt Ideal)} {x : FVec Ideal S2048x1024 .f32} {wg : FVec Ideal S1024x8 .f32} {bg : FVec Ideal S1x8 .f32}

/-- The reference's choices. -/
theorem ref_choice (h : Agree V x wg bg) (t : Fin 2048) (k : Fin 2) :
    (res_main_v20 (F := Ideal) V : IVec S2048x2 32) (ix2 t k) = BitVec.ofNat 32 (tops (prob x wg bg t) k).val := by
  pointwise [res_main_v20]
  refine (topK_snd _ t k).trans ?_
  rw [show (fun e => (res_main_v14 (F := Ideal) V (ix3 0 t e) : EReal)) = prob x wg bg t from funext fun e => ref_prob h t e]

/-- The reference's probabilities of its choices. -/
theorem ref_value (h : Agree V x wg bg) (t : Fin 2048) (k : Fin 2) :
    (res_main_values (F := Ideal) V (ix3 0 t k) : EReal) = prob x wg bg t (tops (prob x wg bg t) k) := by
  unfold res_main_values
  refine (topK_fst _ t k).trans ?_
  rw [show (fun e => (res_main_v14 (F := Ideal) V (ix3 0 t e) : EReal)) = prob x wg bg t from funext fun e => ref_prob h t e]
  exact ref_prob h t _

/-- Counting the choices over all tokens and both places counts each token's. -/
theorem count_total (h : Fin 4096 → Fin 8) (a b : Fin 2048 → Fin 8) (ha : ∀ t : Fin 2048, h ⟨t.val * 2, by omega⟩ = a t)
    (hb : ∀ t : Fin 2048, h ⟨t.val * 2 + 1, by omega⟩ = b t) (e : Fin 8) : (∑ n : Fin 4096, if e = h n then 1 else 0) = total a b e := by
  rw [Fin.sum_univ_tiles 2048 2 (by norm_num), total]
  refine Finset.sum_congr rfl fun t _ => ?_
  rw [Fin.sum_univ_two]
  unfold pick
  exact congrArg₂ (· + ·) (if_congr (by rw [← ha t]; rfl) rfl rfl) (if_congr (by rw [← hb t]; rfl) rfl rfl)

/-- The reference's indices, wrapped as the count wraps them: each choice's expert. -/
theorem ref_index (h : Agree V x wg bg) (n : Fin 4096) :
    (broadcastInDim S4096x1 ![0] bcast_S4096_S4096x1_0 (select (cmpi .slt (res_main_v234 (F := Ideal) V) (broadcastInDim S4096 ![] bcast_S_S4096 (constantI S_ 32 0#32)))
      (addi (res_main_v234 (F := Ideal) V) (broadcastInDim S4096 ![] bcast_S_S4096 (constantI S_ 32 8#32))) (res_main_v234 (F := Ideal) V)) : IVec S4096x1 32) (ix2 n 0)
      = BitVec.ofNat 32 (tops (prob x wg bg ⟨n.val / 2, by omega⟩) ⟨n.val % 2, by omega⟩).val := by
  have h1 : (res_main_v234 (F := Ideal) V : IVec S4096 32) (ix1 n) = BitVec.ofNat 32 (tops (prob x wg bg ⟨n.val / 2, by omega⟩) ⟨n.val % 2, by omega⟩).val := by
    pointwise [res_main_v234]
    rw [show (res_main_v20 (F := Ideal) V (ix2 ⟨n.val / 2, by omega⟩ ⟨n.val % 2, by omega⟩) : BitVec 32) = _ from ref_choice h _ _]
    generalize tops (prob x wg bg ⟨n.val / 2, by omega⟩) ⟨n.val % 2, by omega⟩ = e
    show IntOp.maxsi 0#32 (BitVec.ofNat 32 e.val) = _
    revert e
    decide +kernel
  show Scalar.select (IntOp.cmpi .slt ((res_main_v234 (F := Ideal) V : IVec S4096 32) (ix1 n)) 0#32) (IntOp.addi ((res_main_v234 (F := Ideal) V : IVec S4096 32) (ix1 n)) 8#32)
    ((res_main_v234 (F := Ideal) V : IVec S4096 32) (ix1 n)) = _
  rw [h1]
  generalize tops (prob x wg bg ⟨n.val / 2, by omega⟩) ⟨n.val % 2, by omega⟩ = e
  revert e
  decide +kernel

/-- The reference's share of each expert. -/
theorem ref_usage (h : Agree V x wg bg) (e : Fin 8) :
    (Host.divf (F := Ideal) (s := S8) (φ := .f32) (sitofp .f32 (Host.scatter scatter_S8_S4096x1_S4096_n_0_0_1 IntOp.addi (broadcastInDim S8 ![] bcast_S_S8 (constantI S_ 32 0#32))
      (broadcastInDim S4096x1 ![0] bcast_S4096_S4096x1_0 (select (cmpi .slt (res_main_v234 (F := Ideal) V) (broadcastInDim S4096 ![] bcast_S_S4096 (constantI S_ 32 0#32)))
        (addi (res_main_v234 (F := Ideal) V) (broadcastInDim S4096 ![] bcast_S_S4096 (constantI S_ 32 8#32))) (res_main_v234 (F := Ideal) V)))
      (broadcastInDim S4096 ![] bcast_S_S4096 (constantI S_ 32 1#32)))) (broadcastInDim S8 ![] bcast_S_S8 (constant S_ .f32 0x45800000#32))) (ix1 e)
      = Ideal.div ((total (c1 x wg bg) (c2 x wg bg) e : ℝ) : EReal) (Ideal.ofBits FTy.f32 1166016512#32) := by
  refine congrArg₂ Ideal.div ?_ rfl
  refine (congrArg (fun w : BitVec 32 => (((w.toInt : ℝ)) : EReal)) (scatter_ones _ _ _ _ (fun _ => rfl) (ix1 e))).trans ?_
  have hc : (∑ k : S4096.Idx, if scatter_S8_S4096x1_S4096_n_0_0_1.resultIdx? k (broadcastInDim S4096x1 ![0] bcast_S4096_S4096x1_0 (select (cmpi .slt (res_main_v234 (F := Ideal) V) (broadcastInDim S4096 ![] bcast_S_S4096 (constantI S_ 32 0#32)))
        (addi (res_main_v234 (F := Ideal) V) (broadcastInDim S4096 ![] bcast_S_S4096 (constantI S_ 32 8#32))) (res_main_v234 (F := Ideal) V))) = some (ix1 e) then 1 else 0)
      = total (c1 x wg bg) (c2 x wg bg) e := by
    rw [sum_idx1]
    refine (Finset.sum_congr rfl fun n _ => ?_).trans (count_total (fun n => tops (prob x wg bg ⟨n.val / 2, by omega⟩) ⟨n.val % 2, by omega⟩) _ _ (fun t => ?_) (fun t => ?_) e)
    · exact if_congr (count_lands _ n _ e (ref_index h n)) rfl rfl
    · have e1 : (⟨t.val * 2 / 2, by omega⟩ : Fin 2048) = t := Fin.ext (by show t.val * 2 / 2 = t.val; omega)
      have e2 : (⟨t.val * 2 % 2, by omega⟩ : Fin 2) = 0 := Fin.ext (by show t.val * 2 % 2 = 0; omega)
      show tops (prob x wg bg ⟨t.val * 2 / 2, _⟩) ⟨t.val * 2 % 2, _⟩ = c1 x wg bg t
      rw [e1, e2]; rfl
    · have e1 : (⟨(t.val * 2 + 1) / 2, by omega⟩ : Fin 2048) = t := Fin.ext (by show (t.val * 2 + 1) / 2 = t.val; omega)
      have e2 : (⟨(t.val * 2 + 1) % 2, by omega⟩ : Fin 2) = 1 := Fin.ext (by show (t.val * 2 + 1) % 2 = 1; omega)
      show tops (prob x wg bg ⟨(t.val * 2 + 1) / 2, _⟩) ⟨(t.val * 2 + 1) % 2, _⟩ = c2 x wg bg t
      rw [e1, e2]; rfl
  rw [hc]
  have hle := total_le (a := c1 x wg bg) (b := c2 x wg bg) e
  show ((((0#32 + BitVec.ofNat 32 (total (c1 x wg bg) (c2 x wg bg) e)).toInt : ℝ)) : EReal) = _
  rw [BitVec.zero_add, toInt_small _ (by omega)]
  push_cast
  rfl

end Cert.Proof.Val

end
-- ==== Proof.Math.Chunks.lean ====
/-
  Counting by blocks of 256 tokens: how many choices of an expert come before a token, from the counts before the
  token's block and within it.
-/
module

public import proofs.«01_k».proof.Proof.Math.Places
public import Mathlib.Algebra.BigOperators.Intervals

@[expose] public section

namespace Cert.Proof.Math

/-- The first `r` terms of a sum of `N`. -/
theorem sum_first (N r : ℕ) (h : r ≤ N) (g : ℕ → ℕ) : (∑ s : Fin N, if s.val < r then g s.val else 0) = ∑ s ∈ Finset.range r, g s := by
  rw [Fin.sum_univ_eq_sum_range (fun i => if i < r then g i else 0) N, ← Finset.sum_filter]
  refine Finset.sum_congr ?_ fun _ _ => rfl
  ext i
  simp only [Finset.mem_filter, Finset.mem_range]
  omega

variable (a b : Fin 2048 → Fin 8)

/-- The choices of an expert by the token of a number, none past the last. -/
def pickN (e : Fin 8) (s : ℕ) : ℕ := if h : s < 2048 then pick a b ⟨s, h⟩ e else 0

variable {a b}

theorem before_range (t : ℕ) (h : t ≤ 2048) (e : Fin 8) : before a b t e = ∑ s ∈ Finset.range t, pickN a b e s := by
  rw [← sum_first 2048 t h]
  refine Finset.sum_congr rfl fun s _ => ?_
  unfold pickN
  rw [dif_pos s.isLt]

/-- The count before a token: the count before its block, and within the block before it. -/
theorem before_add (n : ℕ) (r : Fin 256) (hn : n + 256 ≤ 2048) (e : Fin 8) :
    (∑ s : Fin 256, (if s.val < r.val then 1 else 0) * pick a b ⟨n + s.val, by omega⟩ e) + before a b n e = before a b (n + r.val) e := by
  have h1 : (∑ s : Fin 256, (if s.val < r.val then 1 else 0) * pick a b ⟨n + s.val, by omega⟩ e)
      = ∑ s ∈ Finset.range r.val, pickN a b e (n + s) := by
    rw [← sum_first 256 r.val r.isLt.le fun x => pickN a b e (n + x)]
    refine Finset.sum_congr rfl fun s _ => ?_
    unfold pickN
    rw [dif_pos (by omega)]
    split
    · rw [one_mul]
    · rw [zero_mul]
  rw [h1, before_range n (by omega), before_range (n + r.val) (by omega), Finset.sum_range_add _ n r.val]
  exact Nat.add_comm _ _

/-- The count before a block: the count before the last block, and the last block's. -/
theorem before_add_all (n : ℕ) (hn : n + 256 ≤ 2048) (e : Fin 8) :
    before a b n e + (∑ s : Fin 256, pick a b ⟨n + s.val, by omega⟩ e) = before a b (n + 256) e := by
  have h1 : (∑ s : Fin 256, pick a b ⟨n + s.val, by omega⟩ e) = ∑ s ∈ Finset.range 256, pickN a b e (n + s) := by
    rw [← Fin.sum_univ_eq_sum_range (fun s => pickN a b e (n + s)) 256]
    refine Finset.sum_congr rfl fun s _ => ?_
    unfold pickN
    rw [dif_pos (by omega)]
  rw [h1, before_range n (by omega), before_range (n + 256) (by omega), Finset.sum_range_add _ n 256]

theorem before_within (k : ℕ) (hk : k < 8) (r : Fin 256) (e : Fin 8) :
    (∑ s : Fin 256, (if s.val < r.val then 1 else 0) * pick a b ⟨256 * k + s.val, by omega⟩ e) + before a b (256 * k) e
      = before a b (256 * k + r.val) e := before_add (256 * k) r (by omega) e

theorem before_next (k : ℕ) (hk : k < 8) (e : Fin 8) :
    before a b (256 * k) e + (∑ s : Fin 256, pick a b ⟨256 * k + s.val, by omega⟩ e) = before a b (256 * (k + 1)) e :=
  before_add_all (256 * k) (by omega) e

theorem before_zero (e : Fin 8) : before a b 0 e = 0 := by
  rw [before_range 0 (by omega), Finset.sum_range_zero]

theorem before_all (e : Fin 8) : before a b (256 * 8) e = total a b e :=
  Finset.sum_congr rfl fun s _ => if_pos s.isLt

end Cert.Proof.Math
-- ==== Proof.Value.Sorted.lean ====
/-
  The router's integers: where each choice's row goes in the sorted order, which expert owns each block of it, and how
  many blocks are in use.
-/
module

public import proofs.«01_k».proof.Proof.Value.Choice
public import proofs.«01_k».proof.Proof.Math.Chunks

@[expose] public section

set_option maxRecDepth 16384

noncomputable section

namespace Cert.Proof.Val

open Idealize.ShloMosaic Cert.Proof.Math Cert.Proof.RunI
open Cert.KernelIdeal
open Cert.KernelIdeal.Gen

/-! ## One block's step -/

section Step
variable {a b : Fin 2048 → Fin 8}

/-- The carried count after one more block. -/
theorem carry_step (k : ℕ) (hk : k < 8) (e : Fin 8) (p : EReal) (s : Fin 256 → EReal) (hp : p = ((before a b (256 * k) e : ℝ) : EReal))
    (hs : ∀ x : Fin 256, s x = ((pick a b ⟨256 * k + x.val, by omega⟩ e : ℝ) : EReal)) :
    p + ∑ x, s x = ((before a b (256 * (k + 1)) e : ℝ) : EReal) := by
  rw [hp, Finset.sum_congr rfl fun x _ => hs x, sum_nat, ← before_next k hk e, ← EReal.coe_add]
  push_cast
  rfl

/-- The count before each token of a block. -/
theorem within_step (k : ℕ) (hk : k < 8) (e : Fin 8) (r : Fin 256) (p : EReal) (m s : Fin 256 → EReal)
    (hm : ∀ x : Fin 256, m x = (((if x.val < r.val then 1 else 0 : ℕ) : ℝ) : EReal)) (hp : p = ((before a b (256 * k) e : ℝ) : EReal))
    (hs : ∀ x : Fin 256, s x = ((pick a b ⟨256 * k + x.val, by omega⟩ e : ℝ) : EReal)) :
    (∑ x, m x * s x) + p = ((before a b (256 * k + r.val) e : ℝ) : EReal) := by
  have h : ∀ x : Fin 256, m x * s x = (((if x.val < r.val then 1 else 0) * pick a b ⟨256 * k + x.val, by omega⟩ e : ℕ) : ℝ) := by
    intro x
    rw [hm, hs, ← EReal.coe_mul, Nat.cast_mul]
  rw [hp, Finset.sum_congr rfl fun x _ => h x, sum_nat, ← before_within k hk r e, ← EReal.coe_add]
  push_cast
  rfl

end Step

/-- The triangle of marks: one where the column comes before the row. -/
theorem tri_eq (r x : Fin 256) : k0_pay14 (F := Ideal) (ix2 r x) = (((if x.val < r.val then 1 else 0 : ℕ) : ℝ) : EReal) := by
  pointwise [k0_pay14]
  have key : IntOp.cmpi CmpIPredicate.slt (BitVec.ofNat 32 x.val) (BitVec.ofNat 32 r.val) = BitVec.ofBool (decide (x.val < r.val)) := by
    have h1 : (BitVec.ofNat 32 x.val).toInt = x.val := by
      rw [BitVec.toInt_eq_toNat_of_lt (by simp; omega), BitVec.toNat_ofNat, Nat.mod_eq_of_lt (by omega)]
    have h2 : (BitVec.ofNat 32 r.val).toInt = r.val := by
      rw [BitVec.toInt_eq_toNat_of_lt (by simp; omega), BitVec.toNat_ofNat, Nat.mod_eq_of_lt (by omega)]
    show BitVec.ofBool (BitVec.slt _ _) = _
    rw [BitVec.slt, h1, h2]
    simp
  rw [key, mark]

variable {x : FVec Ideal S2048x1024 .f32} {wg : FVec Ideal S1024x8 .f32} {bg : FVec Ideal S1x8 .f32}

section Counts
variable {U : FVec Ideal S2048x8 .f32} {C : FVec Ideal S8 .f32} {a b : Fin 2048 → Fin 8}
variable (hU : ∀ t e, U (ix2 t e) = ((pick a b t e : ℝ) : EReal))

include hU

theorem rows1 (r : Fin 256) (e : Fin 8) : k0_pay20 (F := Ideal) U (ix2 r e) = ((pick a b ⟨256 * 1 + r.val, by omega⟩ e : ℝ) : EReal) := by
  pointwise [k0_pay20]; exact hU _ e
theorem rows2 (r : Fin 256) (e : Fin 8) : k0_pay23 (F := Ideal) U (ix2 r e) = ((pick a b ⟨256 * 2 + r.val, by omega⟩ e : ℝ) : EReal) := by
  pointwise [k0_pay23]; exact hU _ e
theorem rows3 (r : Fin 256) (e : Fin 8) : k0_pay26 (F := Ideal) U (ix2 r e) = ((pick a b ⟨256 * 3 + r.val, by omega⟩ e : ℝ) : EReal) := by
  pointwise [k0_pay26]; exact hU _ e
theorem rows4 (r : Fin 256) (e : Fin 8) : k0_pay29 (F := Ideal) U (ix2 r e) = ((pick a b ⟨256 * 4 + r.val, by omega⟩ e : ℝ) : EReal) := by
  pointwise [k0_pay29]; exact hU _ e
theorem rows5 (r : Fin 256) (e : Fin 8) : k0_pay32 (F := Ideal) U (ix2 r e) = ((pick a b ⟨256 * 5 + r.val, by omega⟩ e : ℝ) : EReal) := by
  pointwise [k0_pay32]; exact hU _ e
theorem rows6 (r : Fin 256) (e : Fin 8) : k0_pay35 (F := Ideal) U (ix2 r e) = ((pick a b ⟨256 * 6 + r.val, by omega⟩ e : ℝ) : EReal) := by
  pointwise [k0_pay35]; exact hU _ e
theorem rows7 (r : Fin 256) (e : Fin 8) : k0_pay38 (F := Ideal) U (ix2 r e) = ((pick a b ⟨256 * 7 + r.val, by omega⟩ e : ℝ) : EReal) := by
  pointwise [k0_pay38]; exact hU _ e

variable {Z : FVec Ideal S1x8 .f32} (hZ : ∀ e, k0_pay19 (F := Ideal) Z C (ix2 0 e) = ((before a b (256 * 1) e : ℝ) : EReal))
include hZ

theorem carry2 (e : Fin 8) : k0_pay22 (F := Ideal) U Z C (ix2 0 e) = ((before a b (256 * 2) e : ℝ) : EReal) := by
  pointwise [k0_pay22]; exact carry_step 1 (by omega) e _ _ (hZ e) fun x => rows1 hU x e
theorem carry3 (e : Fin 8) : k0_pay25 (F := Ideal) U Z C (ix2 0 e) = ((before a b (256 * 3) e : ℝ) : EReal) := by
  pointwise [k0_pay25]; exact carry_step 2 (by omega) e _ _ (carry2 hU hZ e) fun x => rows2 hU x e
theorem carry4 (e : Fin 8) : k0_pay28 (F := Ideal) U Z C (ix2 0 e) = ((before a b (256 * 4) e : ℝ) : EReal) := by
  pointwise [k0_pay28]; exact carry_step 3 (by omega) e _ _ (carry3 hU hZ e) fun x => rows3 hU x e
theorem carry5 (e : Fin 8) : k0_pay31 (F := Ideal) U Z C (ix2 0 e) = ((before a b (256 * 5) e : ℝ) : EReal) := by
  pointwise [k0_pay31]; exact carry_step 4 (by omega) e _ _ (carry4 hU hZ e) fun x => rows4 hU x e
theorem carry6 (e : Fin 8) : k0_pay34 (F := Ideal) U Z C (ix2 0 e) = ((before a b (256 * 6) e : ℝ) : EReal) := by
  pointwise [k0_pay34]; exact carry_step 5 (by omega) e _ _ (carry5 hU hZ e) fun x => rows5 hU x e
theorem carry7 (e : Fin 8) : k0_pay37 (F := Ideal) U Z C (ix2 0 e) = ((before a b (256 * 7) e : ℝ) : EReal) := by
  pointwise [k0_pay37]; exact carry_step 6 (by omega) e _ _ (carry6 hU hZ e) fun x => rows6 hU x e

theorem cum1 (r : Fin 256) (e : Fin 8) : k0_pay21 (F := Ideal) U k0_pay14 Z C (ix2 r e) = ((before a b (256 * 1 + r.val) e : ℝ) : EReal) := by
  pointwise [k0_pay21]; exact within_step 1 (by omega) e r _ _ _ (tri_eq r) (hZ e) fun x => rows1 hU x e
theorem cum2 (r : Fin 256) (e : Fin 8) : k0_pay24 (F := Ideal) U k0_pay14 Z C (ix2 r e) = ((before a b (256 * 2 + r.val) e : ℝ) : EReal) := by
  pointwise [k0_pay24]; exact within_step 2 (by omega) e r _ _ _ (tri_eq r) (carry2 hU hZ e) fun x => rows2 hU x e
theorem cum3 (r : Fin 256) (e : Fin 8) : k0_pay27 (F := Ideal) U k0_pay14 Z C (ix2 r e) = ((before a b (256 * 3 + r.val) e : ℝ) : EReal) := by
  pointwise [k0_pay27]; exact within_step 3 (by omega) e r _ _ _ (tri_eq r) (carry3 hU hZ e) fun x => rows3 hU x e
theorem cum4 (r : Fin 256) (e : Fin 8) : k0_pay30 (F := Ideal) U k0_pay14 Z C (ix2 r e) = ((before a b (256 * 4 + r.val) e : ℝ) : EReal) := by
  pointwise [k0_pay30]; exact within_step 4 (by omega) e r _ _ _ (tri_eq r) (carry4 hU hZ e) fun x => rows4 hU x e
theorem cum5 (r : Fin 256) (e : Fin 8) : k0_pay33 (F := Ideal) U k0_pay14 Z C (ix2 r e) = ((before a b (256 * 5 + r.val) e : ℝ) : EReal) := by
  pointwise [k0_pay33]; exact within_step 5 (by omega) e r _ _ _ (tri_eq r) (carry5 hU hZ e) fun x => rows5 hU x e
theorem cum6 (r : Fin 256) (e : Fin 8) : k0_pay36 (F := Ideal) U k0_pay14 Z C (ix2 r e) = ((before a b (256 * 6 + r.val) e : ℝ) : EReal) := by
  pointwise [k0_pay36]; exact within_step 6 (by omega) e r _ _ _ (tri_eq r) (carry6 hU hZ e) fun x => rows6 hU x e

end Counts

/-! ## The router's -/

/-- No choice comes before the first token. -/
theorem before_first {a b : Fin 2048 → Fin 8} (e : Fin 8) : k0_pay15 (F := Ideal) (ix2 0 e) = ((before a b (256 * 0) e : ℝ) : EReal) := by
  have h : before a b (256 * 0) e = 0 := before_zero e
  have z : k0_pay15 (F := Ideal) (ix2 0 e) = 0 := by pointwise [k0_pay15]
  rw [z, h, Nat.cast_zero, EReal.coe_zero]

theorem rows0 (hz : Above x wg bg) (r : Fin 256) (e : Fin 8) : k0_pay16 (F := Ideal) (k0_pay5 (F := Ideal) x wg bg) (k0_pay8 (F := Ideal) x wg bg) (ix2 r e)
    = ((pick (c1 x wg bg) (c2 x wg bg) ⟨256 * 0 + r.val, by omega⟩ e : ℝ) : EReal) := by
  have h := ohs_eq hz ⟨256 * 0 + r.val, by omega⟩ e
  rw [← h]
  unfold rOhs
  pointwise [k0_pay16]

theorem carry1 (hz : Above x wg bg) (e : Fin 8) : k0_pay19 (F := Ideal) k0_pay15 (rCnt0 x wg bg) (ix2 0 e)
    = ((before (c1 x wg bg) (c2 x wg bg) (256 * 1) e : ℝ) : EReal) := by
  unfold rCnt0
  pointwise [k0_pay19, k0_pay18]
  exact carry_step 0 (by omega) e _ _ (before_first e) fun x => rows0 hz x e

theorem cum0 (hz : Above x wg bg) (r : Fin 256) (e : Fin 8) : k0_pay17 (F := Ideal) (k0_pay5 (F := Ideal) x wg bg) (k0_pay8 (F := Ideal) x wg bg) (ix2 r e)
    = ((before (c1 x wg bg) (c2 x wg bg) (256 * 0 + r.val) e : ℝ) : EReal) := by
  have h := within_step 0 (by omega) e r _ _ _ (tri_eq r) (before_first e) fun x => rows0 hz x e
  rw [← h]
  pointwise [k0_pay17]

theorem cum7 (hz : Above x wg bg) (r : Fin 256) (e : Fin 8) :
    k0_pay39 (F := Ideal) (rOhs x wg bg) k0_pay14 (ix2 r e) + k0_pay40 (F := Ideal) (rOhs x wg bg) k0_pay15 (rCnt0 x wg bg) (ix2 r e)
    = ((before (c1 x wg bg) (c2 x wg bg) (256 * 7 + r.val) e : ℝ) : EReal) := by
  pointwise [k0_pay39, k0_pay40]
  exact within_step 7 (by omega) e r _ _ _ (tri_eq r) (carry7 (ohs_eq hz) (carry1 hz) e) fun x => rows7 (ohs_eq hz) x e

/-! ## The tables -/

theorem f256 : Ideal.ofBits FTy.f32 1132462080#32 = ((256 : ℝ) : EReal) := by
  simp [Ideal.ofBits, Ideal.ieee, -EReal.coe_mul]; norm_num
theorem f255 : Ideal.ofBits FTy.f32 1132396544#32 = ((255 : ℝ) : EReal) := by
  simp [Ideal.ofBits, Ideal.ieee, -EReal.coe_mul]; norm_num

/-- A natural number over 256. -/
theorem over256 (n : ℕ) : Ideal.div ((n : ℝ) : EReal) (Ideal.ofBits FTy.f32 1132462080#32) = (((n : ℝ) / 256 : ℝ) : EReal) := by
  rw [f256]
  rw [Ideal.div, if_neg (by simp), EReal.coe_div, EReal.div_eq_inv_mul, mul_comm]

/-- A small natural number as a machine integer. -/
theorem to_int (n : ℕ) (h : n < 2 ^ 31) : FloatOps.fptosi (F := Ideal) (φ := FTy.f32) 32 ((n : ℝ) : EReal) = BitVec.ofNat 32 n := by
  show Ideal.fptosi 32 ((n : ℝ) : EReal) = _
  have h1 : Ideal.toIntClamped (-(2 ^ (32 - 1) : Nat)) ((2 ^ (32 - 1) : Nat) - 1) ((n : ℝ) : EReal) = (n : ℤ) := by
    show max _ (min _ (if (0 : ℝ) ≤ n then ⌊(n : ℝ)⌋ else ⌈(n : ℝ)⌉)) = _
    rw [if_pos (Nat.cast_nonneg n), Int.floor_natCast]
    omega
  unfold Ideal.fptosi
  rw [h1, BitVec.ofInt_natCast]

theorem floor256 (n : ℕ) : ⌊(n : ℝ) / 256⌋ = ((n / 256 : ℕ) : ℤ) := by
  have h1 : ((256 * (n / 256) + n % 256 : ℕ) : ℝ) = n := by rw [Nat.div_add_mod]
  have h2 : ((n % 256 : ℕ) : ℝ) < 256 := by exact_mod_cast Nat.mod_lt n (by norm_num)
  have h3 : (0 : ℝ) ≤ ((n % 256 : ℕ) : ℝ) := Nat.cast_nonneg _
  rw [Nat.cast_add, Nat.cast_mul] at h1
  rw [Int.floor_eq_iff, Int.cast_natCast]
  generalize ((n / 256 : ℕ) : ℝ) = q at *
  norm_num at h1
  constructor
  · rw [le_div_iff₀ (by norm_num)]; linarith
  · rw [div_lt_iff₀ (by norm_num)]; linarith

/-- 256 times a natural number, over 256. -/
theorem unpad (n : ℕ) : Ideal.div (((256 * n : ℕ) : ℝ) : EReal) (Ideal.ofBits FTy.f32 1132462080#32) = ((n : ℝ) : EReal) := by
  rw [over256, Nat.cast_mul]
  congr 1
  norm_num

/-- The rows each expert's blocks hold. -/
theorem padded_eq (hz : Above x wg bg) (e : Fin 8) :
    k0_pay41 (F := Ideal) (k0_pay37 (rOhs x wg bg) k0_pay15 (rCnt0 x wg bg)) (k0_pay38 (rOhs x wg bg)) (ix2 0 e)
      = (((256 * blocks (c1 x wg bg) (c2 x wg bg) e : ℕ) : ℝ) : EReal) := by
  have h := carry_step 7 (by omega) e _ _ (carry7 (ohs_eq hz) (carry1 hz) e) fun r => rows7 (ohs_eq hz) r e
  rw [before_all] at h
  pointwise [k0_pay41]
  rw [h, f255, ← EReal.coe_add]
  unfold blocks
  generalize total (c1 x wg bg) (c2 x wg bg) e = n
  have h1 : ((n : ℝ) + 255) = ((n + 255 : ℕ) : ℝ) := by push_cast; rfl
  rw [h1, over256, f256]
  show ((⌊((n + 255 : ℕ) : ℝ) / 256⌋ : ℝ) : EReal) * _ = _
  rw [floor256, ← EReal.coe_mul, Int.cast_natCast, Nat.cast_mul, mul_comm]
  norm_num

/-- The order of two small numbers as machine integers. -/
theorem slt_experts : ∀ d e : Fin 8, IntOp.cmpi CmpIPredicate.slt (BitVec.ofNat 32 d.val) (BitVec.ofNat 32 e.val) = BitVec.ofBool (decide (d.val < e.val)) := by
  decide +kernel

/-- The first row of each expert's blocks. -/
theorem start_eq (hz : Above x wg bg) (e : Fin 8) :
    k0_pay42 (F := Ideal) (k0_pay37 (rOhs x wg bg) k0_pay15 (rCnt0 x wg bg)) (k0_pay38 (rOhs x wg bg)) (ix2 0 e)
      = (((256 * start (c1 x wg bg) (c2 x wg bg) e : ℕ) : ℝ) : EReal) := by
  pointwise [k0_pay42]
  have h : ∀ d : Fin 8, k0_pay41 (F := Ideal) (k0_pay37 (rOhs x wg bg) k0_pay15 (rCnt0 x wg bg)) (k0_pay38 (rOhs x wg bg)) (ix2 0 d) *
        FloatOps.sitofp (F := Ideal) FTy.f32 (BitVec.setWidth 32 (IntOp.cmpi CmpIPredicate.slt (BitVec.ofNat 32 d.val) (BitVec.ofNat 32 e.val)))
      = (((256 * (if d.val < e.val then blocks (c1 x wg bg) (c2 x wg bg) d else 0) : ℕ) : ℝ) : EReal) := by
    intro d
    rw [padded_eq hz, slt_experts, mark, ← EReal.coe_mul, ← Nat.cast_mul]
    congr 2
    split
    · rw [mul_one]
    · rw [mul_zero, mul_zero]
  rw [Finset.sum_congr rfl fun d _ => h d, sum_nat, start, Finset.mul_sum]

/-- How many blocks are in use. -/
theorem used_eq (hz : Above x wg bg) : oUsed (F := Ideal) x wg bg (ix2 0 0) = BitVec.ofNat 32 (used (c1 x wg bg) (c2 x wg bg)) := by
  unfold oUsed rC7 rLast
  pointwise [k0_pay1]
  rw [Finset.sum_congr rfl fun d _ => padded_eq hz d, sum_nat, ← Finset.mul_sum, unpad]
  refine to_int _ (lt_trans (used_bounds (a := c1 x wg bg) (b := c2 x wg bg)).2 (by norm_num))

theorem count_experts : ∀ q : Fin 8 → Bool, q 0 = true →
    IntOp.minsi (7#32) (IntOp.maxsi (0#32) (IntOp.subi (Finset.fold IntOp.addi (0#32) (fun e => BitVec.setWidth 32 (BitVec.ofBool (q e))) Finset.univ) 1#32))
      = BitVec.ofNat 32 ((∑ e : Fin 8, if q e = true then 1 else 0) - 1) := by
  decide +kernel

/-- A small natural number as a machine integer is itself. -/
theorem toInt_nat (n : ℕ) (h : n < 2 ^ 31) : (BitVec.ofNat 32 n).toInt = (n : ℤ) := by
  rw [BitVec.toInt_eq_toNat_of_lt (by rw [BitVec.toNat_ofNat, Nat.mod_eq_of_lt (by omega)]; omega), BitVec.toNat_ofNat, Nat.mod_eq_of_lt (by omega)]

/-- The expert that owns each block. -/
theorem owner_eq (hz : Above x wg bg) (g : Fin 24) : oBe (F := Ideal) x wg bg (ix2 g 0) = BitVec.ofNat 32 (owner (c1 x wg bg) (c2 x wg bg) g.val) := by
  unfold oBe rC7 rLast
  pointwise [k0_pay44]
  have hg : FloatOps.sitofp (F := Ideal) FTy.f32 (BitVec.ofNat 32 g.val) = ((g.val : ℝ) : EReal) := by
    show (((BitVec.ofNat 32 g.val).toInt : ℝ) : EReal) = _
    rw [toInt_nat _ (by omega)]; norm_num
  have h : ∀ e : Fin 8, decide (Ideal.div (k0_pay42 (F := Ideal) (k0_pay37 (rOhs x wg bg) k0_pay15 (rCnt0 x wg bg)) (k0_pay38 (rOhs x wg bg)) (ix2 0 e))
      (Ideal.ofBits FTy.f32 1132462080#32) ≤ FloatOps.sitofp (F := Ideal) FTy.f32 (BitVec.ofNat 32 g.val)) = decide (start (c1 x wg bg) (c2 x wg bg) e ≤ g.val) := by
    intro e
    rw [start_eq hz, unpad, hg]
    exact decide_eq_decide.mpr (EReal.coe_le_coe_iff.trans Nat.cast_le)
  refine (congrArg (fun f : Fin 8 → BitVec 32 => IntOp.minsi (7#32) (IntOp.maxsi (0#32) (IntOp.subi (Finset.fold IntOp.addi (0#32) f Finset.univ) 1#32)))
    (funext fun e => congrArg (fun b => BitVec.setWidth 32 (BitVec.ofBool b)) (h e))).trans ?_
  refine (count_experts (fun e => decide (start (c1 x wg bg) (c2 x wg bg) e ≤ g.val)) (decide_eq_true ?_)).trans ?_
  · have : start (c1 x wg bg) (c2 x wg bg) 0 = 0 := by
      unfold start
      exact Finset.sum_eq_zero fun d _ => if_neg (Nat.not_lt_zero _)
    omega
  · unfold owner
    simp only [decide_eq_true_eq]

/-- Eight blocks of 256, read at a token. -/
theorem chain (t : Fin 2048) (v0 v1 v2 v3 v4 v5 v6 v7 : Fin 256 → EReal) (g : ℕ → EReal)
    (h0 : ∀ r : Fin 256, v0 r = g (256 * 0 + r.val)) (h1 : ∀ r : Fin 256, v1 r = g (256 * 1 + r.val))
    (h2 : ∀ r : Fin 256, v2 r = g (256 * 2 + r.val)) (h3 : ∀ r : Fin 256, v3 r = g (256 * 3 + r.val))
    (h4 : ∀ r : Fin 256, v4 r = g (256 * 4 + r.val)) (h5 : ∀ r : Fin 256, v5 r = g (256 * 5 + r.val))
    (h6 : ∀ r : Fin 256, v6 r = g (256 * 6 + r.val)) (h7 : ∀ r : Fin 256, v7 r = g (256 * 7 + r.val)) :
    (if h : t.val < 256 then v0 ⟨t.val, h⟩ else if h : t.val - 256 < 256 then v1 ⟨t.val - 256, h⟩
      else if h : t.val - 256 - 256 < 256 then v2 ⟨t.val - 256 - 256, h⟩
      else if h : t.val - 256 - 256 - 256 < 256 then v3 ⟨t.val - 256 - 256 - 256, h⟩
      else if h : t.val - 256 - 256 - 256 - 256 < 256 then v4 ⟨t.val - 256 - 256 - 256 - 256, h⟩
      else if h : t.val - 256 - 256 - 256 - 256 - 256 < 256 then v5 ⟨t.val - 256 - 256 - 256 - 256 - 256, h⟩
      else if h : t.val - 256 - 256 - 256 - 256 - 256 - 256 < 256 then v6 ⟨t.val - 256 - 256 - 256 - 256 - 256 - 256, h⟩
      else v7 ⟨t.val - 256 - 256 - 256 - 256 - 256 - 256 - 256, by omega⟩) = g t.val := by
  obtain ⟨t, ht⟩ := t
  simp only [h0, h1, h2, h3, h4, h5, h6, h7]
  split
  · exact congrArg g (by omega)
  split
  · exact congrArg g (by omega)
  split
  · exact congrArg g (by omega)
  split
  · exact congrArg g (by omega)
  split
  · exact congrArg g (by omega)
  split
  · exact congrArg g (by omega)
  split
  · exact congrArg g (by omega)
  · exact congrArg g (by omega)

/-- A marked sum of first rows and counts is one choice's place. -/
theorem place_int {a b : Fin 2048 → Fin 8} (t : Fin 2048) (k : Fin 8) (m s q : Fin 8 → EReal)
    (hm : ∀ e, m e = (((if e = k then 1 else 0 : ℕ) : ℝ) : EReal)) (hs : s k = (((256 * start a b k : ℕ) : ℝ) : EReal))
    (hq : q k = ((before a b t.val k : ℝ) : EReal)) :
    FloatOps.fptosi (F := Ideal) (φ := FTy.f32) 32 (∑ e, m e * (s e + q e)) = BitVec.ofNat 32 (place a b t k) := by
  have h : (∑ e, m e * (s e + q e)) = ((place a b t k : ℝ) : EReal) := by
    rw [Finset.sum_eq_single k (fun e _ he => ?_) fun h => absurd (Finset.mem_univ k) h]
    · rw [hm, if_pos rfl, hs, hq, ← EReal.coe_add, Nat.cast_one, EReal.coe_one, one_mul, ← Nat.cast_add]
      rfl
    · rw [hm, if_neg he, Nat.cast_zero, EReal.coe_zero, zero_mul]
  rw [h]
  exact to_int _ (lt_trans (place_lt_8192 t k) (by norm_num))

theorem second_mark (hz : Above x wg bg) (t : Fin 2048) (e : Fin 8) : k0_pay9 (F := Ideal) (k0_pay8 (F := Ideal) x wg bg) (ix2 t e)
    = (((if e = c2 x wg bg t then 1 else 0 : ℕ) : ℝ) : EReal) := by
  pointwise [k0_pay9]
  rw [pay8_eq hz, mark]

/-- Where the row of a token's first choice goes. -/
theorem dst_fst (hz : Above x wg bg) (t : Fin 2048) : oDst (F := Ideal) x wg bg (ix2 t 0)
    = BitVec.ofNat 32 (place (c1 x wg bg) (c2 x wg bg) t (c1 x wg bg t)) := by
  unfold oDst rC7 rLast
  pointwise [k0_pay43]
  have hU := ohs_eq hz
  have hZ := carry1 hz
  refine place_int t (c1 x wg bg t) _ _ _ (pay5_eq t) (start_eq hz _) ?_
  exact chain t (fun r => k0_pay17 (F := Ideal) (k0_pay5 (F := Ideal) x wg bg) (k0_pay8 (F := Ideal) x wg bg) (ix2 r (c1 x wg bg t)))
    (fun r => k0_pay21 (F := Ideal) (rOhs x wg bg) k0_pay14 k0_pay15 (rCnt0 x wg bg) (ix2 r (c1 x wg bg t)))
    (fun r => k0_pay24 (F := Ideal) (rOhs x wg bg) k0_pay14 k0_pay15 (rCnt0 x wg bg) (ix2 r (c1 x wg bg t)))
    (fun r => k0_pay27 (F := Ideal) (rOhs x wg bg) k0_pay14 k0_pay15 (rCnt0 x wg bg) (ix2 r (c1 x wg bg t)))
    (fun r => k0_pay30 (F := Ideal) (rOhs x wg bg) k0_pay14 k0_pay15 (rCnt0 x wg bg) (ix2 r (c1 x wg bg t)))
    (fun r => k0_pay33 (F := Ideal) (rOhs x wg bg) k0_pay14 k0_pay15 (rCnt0 x wg bg) (ix2 r (c1 x wg bg t)))
    (fun r => k0_pay36 (F := Ideal) (rOhs x wg bg) k0_pay14 k0_pay15 (rCnt0 x wg bg) (ix2 r (c1 x wg bg t)))
    (fun r => k0_pay39 (F := Ideal) (rOhs x wg bg) k0_pay14 (ix2 r (c1 x wg bg t)) + k0_pay40 (F := Ideal) (rOhs x wg bg) k0_pay15 (rCnt0 x wg bg) (ix2 r (c1 x wg bg t)))
    (fun n => ((before (c1 x wg bg) (c2 x wg bg) n (c1 x wg bg t) : ℝ) : EReal)) (fun r => cum0 hz r _) (fun r => cum1 hU hZ r _) (fun r => cum2 hU hZ r _)
    (fun r => cum3 hU hZ r _) (fun r => cum4 hU hZ r _) (fun r => cum5 hU hZ r _) (fun r => cum6 hU hZ r _) (fun r => cum7 hz r _)

/-- Where the row of its second choice goes. -/
theorem dst_snd (hz : Above x wg bg) (t : Fin 2048) : oDst (F := Ideal) x wg bg (ix2 t 1)
    = BitVec.ofNat 32 (place (c1 x wg bg) (c2 x wg bg) t (c2 x wg bg t)) := by
  unfold oDst rC7 rLast
  pointwise [k0_pay43]
  have hU := ohs_eq hz
  have hZ := carry1 hz
  refine place_int t (c2 x wg bg t) _ _ _ (second_mark hz t) (start_eq hz _) ?_
  exact chain t (fun r => k0_pay17 (F := Ideal) (k0_pay5 (F := Ideal) x wg bg) (k0_pay8 (F := Ideal) x wg bg) (ix2 r (c2 x wg bg t)))
    (fun r => k0_pay21 (F := Ideal) (rOhs x wg bg) k0_pay14 k0_pay15 (rCnt0 x wg bg) (ix2 r (c2 x wg bg t)))
    (fun r => k0_pay24 (F := Ideal) (rOhs x wg bg) k0_pay14 k0_pay15 (rCnt0 x wg bg) (ix2 r (c2 x wg bg t)))
    (fun r => k0_pay27 (F := Ideal) (rOhs x wg bg) k0_pay14 k0_pay15 (rCnt0 x wg bg) (ix2 r (c2 x wg bg t)))
    (fun r => k0_pay30 (F := Ideal) (rOhs x wg bg) k0_pay14 k0_pay15 (rCnt0 x wg bg) (ix2 r (c2 x wg bg t)))
    (fun r => k0_pay33 (F := Ideal) (rOhs x wg bg) k0_pay14 k0_pay15 (rCnt0 x wg bg) (ix2 r (c2 x wg bg t)))
    (fun r => k0_pay36 (F := Ideal) (rOhs x wg bg) k0_pay14 k0_pay15 (rCnt0 x wg bg) (ix2 r (c2 x wg bg t)))
    (fun r => k0_pay39 (F := Ideal) (rOhs x wg bg) k0_pay14 (ix2 r (c2 x wg bg t)) + k0_pay40 (F := Ideal) (rOhs x wg bg) k0_pay15 (rCnt0 x wg bg) (ix2 r (c2 x wg bg t)))
    (fun n => ((before (c1 x wg bg) (c2 x wg bg) n (c2 x wg bg t) : ℝ) : EReal)) (fun r => cum0 hz r _) (fun r => cum1 hU hZ r _) (fun r => cum2 hU hZ r _)
    (fun r => cum3 hU hZ r _) (fun r => cum4 hU hZ r _) (fun r => cum5 hU hZ r _) (fun r => cum6 hU hZ r _) (fun r => cum7 hz r _)

end Cert.Proof.Val
-- ==== Proof.Value.Blocks.lean ====
/-
  What one block of sorted rows adds to the output: its rows are gathered by marks, put through the block's expert, and
  each token takes back the rows that are its own, weighted.
-/
module

public import proofs.«01_k».proof.Proof.Value.Choice
public import proofs.«01_k».proof.Proof.RunI.Ffn

@[expose] public section

set_option maxRecDepth 16384

noncomputable section

namespace Cert.Proof.Val

open Idealize.ShloMosaic Cert.Proof.Math Cert.Proof.RunI
open Cert.KernelIdeal
open Cert.KernelIdeal.Gen

/-- Half of an expert's two layers at one output column: 1024 of its hidden units, from a row `x`. -/
def half (x : Fin 1024 → EReal) (W : Fin 1024 → Fin 1024 → EReal) (b V : Fin 1024 → EReal) : EReal :=
  ∑ f, max (∑ k, x k * W k f + b f) 0 * V f

/-- Whether a place is row `r` of the block at grid point `i`, as the kernel compares it. -/
theorem row_mark (i : grid1.Coords) (P : ℕ) (hP : P < 2 ^ 20) (r : Fin 256) :
    IntOp.cmpi CmpIPredicate.eq (IntOp.subi (BitVec.ofNat 32 P) (base i)) (BitVec.ofNat 32 r.val)
      = BitVec.ofBool (decide (P = 256 * (i 0).val + r.val)) := by
  have hi : (i 0).val < 24 := (i 0).isLt
  unfold base
  generalize (i 0).val = g at hi
  show BitVec.ofBool (decide (BitVec.ofNat 32 P - BitVec.ofNat 32 g * 256#32 = BitVec.ofNat 32 r.val)) = _
  refine congrArg BitVec.ofBool (decide_eq_decide.mpr ?_)
  have hr := r.isLt
  have e1 : (BitVec.ofNat 32 P).toNat = P := by rw [BitVec.toNat_ofNat, Nat.mod_eq_of_lt (by omega)]
  have e2 : (BitVec.ofNat 32 g * 256#32).toNat = 256 * g := by
    rw [BitVec.toNat_mul, BitVec.toNat_ofNat, BitVec.toNat_ofNat, Nat.mod_eq_of_lt (show g < 2 ^ 32 by omega),
      Nat.mod_eq_of_lt (show 256 < 2 ^ 32 by norm_num), Nat.mod_eq_of_lt (by omega)]
    omega
  have e3 : (BitVec.ofNat 32 r.val).toNat = r.val := by rw [BitVec.toNat_ofNat, Nat.mod_eq_of_lt (by omega)]
  rw [← BitVec.toNat_inj, BitVec.toNat_sub, e1, e2, e3]
  omega

theorem or_mark : ∀ p q : Bool, IntOp.ori (BitVec.ofBool p) (BitVec.ofBool q) = BitVec.ofBool (p || q) := by decide

theorem select_mark (p : Prop) [Decidable p] (u v : EReal) : Scalar.select (BitVec.ofBool (decide p)) u v = if p then u else v := by
  by_cases h : p
  · rw [decide_eq_true h, if_pos h]; rfl
  · rw [decide_eq_false h, if_neg h]; rfl

/-- A sum of marked terms, one of them marked. -/
theorem gather {n : ℕ} (q : Fin n → Prop) [DecidablePred q] (s : Fin n) (hs : ∀ s', q s' ↔ s' = s) (X : Fin n → EReal) :
    (∑ s', (((if q s' then 1 else 0 : ℕ) : ℝ) : EReal) * X s') = X s := by
  rw [Finset.sum_eq_single s (fun e _ he => ?_) fun h => absurd (Finset.mem_univ s) h]
  · rw [if_pos ((hs s).mpr rfl), Nat.cast_one, EReal.coe_one, one_mul]
  · rw [if_neg fun h => he ((hs e).mp h), Nat.cast_zero, EReal.coe_zero, zero_mul]

/-- The rows of one block that are a token's: at most one for each of its choices. -/
theorem take_back (g P Q : ℕ) (hPQ : P ≠ Q) (u v : EReal) (Y : Fin 256 → EReal) (F : EReal)
    (hP : ∀ r : Fin 256, P = 256 * g + r.val → Y r = F) (hQ : ∀ r : Fin 256, Q = 256 * g + r.val → Y r = F) :
    (∑ r : Fin 256, ((if P = 256 * g + r.val then u else 0) + (if Q = 256 * g + r.val then v else 0)) * Y r)
      = (if P / 256 = g then u * F else 0) + (if Q / 256 = g then v * F else 0) := by
  have one : ∀ (R : ℕ) (w : EReal), (∀ r : Fin 256, R = 256 * g + r.val → Y r = F) →
      (∑ r : Fin 256, (if R = 256 * g + r.val then w else 0) * Y r) = if R / 256 = g then w * F else 0 := by
    intro R w hR
    by_cases h : R / 256 = g
    · rw [if_pos h]
      have hr : R = 256 * g + (⟨R % 256, Nat.mod_lt _ (by norm_num)⟩ : Fin 256).val := by
        show R = 256 * g + R % 256
        omega
      rw [Finset.sum_eq_single (⟨R % 256, Nat.mod_lt _ (by norm_num)⟩ : Fin 256) (fun r _ he => ?_) fun h => absurd (Finset.mem_univ _) h]
      · rw [if_pos hr, hR _ hr]
      · rw [if_neg fun h2 => he (Fin.ext (by show r.val = R % 256; omega)), zero_mul]
    · rw [if_neg h]
      refine Finset.sum_eq_zero fun r _ => ?_
      have := r.isLt
      rw [if_neg (by omega), zero_mul]
  rw [← one P u hP, ← one Q v hQ, ← Finset.sum_add_distrib]
  refine Finset.sum_congr rfl fun r _ => ?_
  by_cases h : P = 256 * g + r.val
  · rw [if_neg (show ¬ Q = 256 * g + r.val by omega), add_zero, zero_mul, add_zero]
  · rw [if_neg h, zero_add, zero_mul, zero_add]

section Contribution

variable (i : grid1.Coords) (X : FVec Ideal S2048x1024 .f32) (dT : IVec S2x2048 32) (wT : FVec Ideal S2x2048 .f32)
variable (w1a w1b : FVec Ideal S1x1024x1024 .f32) (b1 : FVec Ideal S1x1x2048 .f32) (w2a w2b : FVec Ideal S1x1024x1024 .f32) (b2 : FVec Ideal S1x1x1024 .f32)

variable (P Q : Fin 2048 → ℕ) (hP : ∀ s, P s < 2 ^ 20) (hQ : ∀ s, Q s < 2 ^ 20)
variable (dP : ∀ s, dT (ix2 0 s) = BitVec.ofNat 32 (P s)) (dQ : ∀ s, dT (ix2 1 s) = BitVec.ofNat 32 (Q s))

include hP dP in
/-- The first choices' marks on the block's rows. -/
theorem first_rows (r : Fin 256) (s : Fin 2048) : k1_pay3 (F := Ideal) (base i) k1_pay2 (row0 (F := Ideal) (e := .i32) dT) (ix2 r s)
    = BitVec.ofBool (decide (P s = 256 * (i 0).val + r.val)) := by
  unfold row0
  pointwise [k1_pay3, k1_pay2]
  rw [dP, row_mark i _ (hP s)]

include hQ dQ in
/-- The second choices'. -/
theorem second_rows (r : Fin 256) (s : Fin 2048) : k1_pay4 (F := Ideal) (base i) k1_pay2 (row1 (F := Ideal) (e := .i32) dT) (ix2 r s)
    = BitVec.ofBool (decide (Q s = 256 * (i 0).val + r.val)) := by
  unfold row1
  pointwise [k1_pay4, k1_pay2]
  rw [dQ, row_mark i _ (hQ s)]

/-- One row of the block: the row of the token it belongs to. -/
def Is (r : Fin 256) (s : Fin 2048) : Prop := P s = 256 * (i 0).val + r.val ∨ Q s = 256 * (i 0).val + r.val

include hP hQ dP dQ in
theorem gathered (r : Fin 256) (s : Fin 2048) (hs : ∀ s', Is i P Q r s' ↔ s' = s) (k : Fin 1024) :
    k1_pay5 (F := Ideal) (base i) k1_pay2 (row0 (F := Ideal) (e := .i32) dT) (row1 (F := Ideal) (e := .i32) dT) X (ix2 r k) = X (ix2 s k) := by
  classical
  pointwise [k1_pay5]
  simp only [first_rows i dT P hP dP, second_rows i dT Q hQ dQ, or_mark, ← Bool.decide_or, mark]
  exact gather (fun s' => P s' = 256 * (i 0).val + r.val ∨ Q s' = 256 * (i 0).val + r.val) s hs fun s' => X (ix2 s' k)

/-- The block's expert at a token and output column. -/
def expert (s : Fin 2048) (d : Fin 1024) : EReal :=
  half (fun k => X (ix2 s k)) (fun k f => w1a (ix3 0 k f)) (fun f => b1 (ix3 0 0 ⟨f.val, by omega⟩)) (fun f => w2a (ix3 0 f d))
    + half (fun k => X (ix2 s k)) (fun k f => w1b (ix3 0 k f)) (fun f => b1 (ix3 0 0 ⟨1024 + f.val, by omega⟩)) (fun f => w2b (ix3 0 f d))
    + b2 (ix3 0 0 d)

include hP hQ dP dQ in
/-- The expert's first 1024 hidden units on a row of the block. -/
theorem hidden_lo (r : Fin 256) (s : Fin 2048) (hs : ∀ s', Is i P Q r s' ↔ s' = s) (f : Fin 1024) :
    (k1_pay6 (F := Ideal) (base i) k1_pay2 (row0 (F := Ideal) (e := .i32) dT) (row1 (F := Ideal) (e := .i32) dT) X w1a (b1lo b1) (ix2 r f) : EReal)
      = max (∑ k, (fun k => X (ix2 s k) : Fin 1024 → EReal) k * w1a (ix3 0 k f) + b1 (ix3 0 0 ⟨f.val, by omega⟩)) 0 := by
  have hb : b1lo (F := Ideal) b1 (ix3 0 0 f) = b1 (ix3 0 0 ⟨f.val, by omega⟩) := by
    unfold b1lo
    pointwise
  pointwise [k1_pay6]
  simp only [gathered i X dT P Q hP hQ dP dQ r s hs, hb]

include hP hQ dP dQ in
/-- The expert's last 1024 hidden units on a row of the block. -/
theorem hidden_hi (r : Fin 256) (s : Fin 2048) (hs : ∀ s', Is i P Q r s' ↔ s' = s) (f : Fin 1024) :
    (max (k1_pay7 (F := Ideal) (base i) k1_pay2 (row0 (F := Ideal) (e := .i32) dT) (row1 (F := Ideal) (e := .i32) dT) X w1b (ix2 r f) + b1hi b1 (ix3 0 0 f)) 0 : EReal)
      = max (∑ k, (fun k => X (ix2 s k) : Fin 1024 → EReal) k * w1b (ix3 0 k f) + b1 (ix3 0 0 ⟨1024 + f.val, by omega⟩)) 0 := by
  have hb : b1hi (F := Ideal) b1 (ix3 0 0 f) = b1 (ix3 0 0 ⟨1024 + f.val, by omega⟩) := by
    unfold b1hi
    pointwise
  have hp : (k1_pay7 (F := Ideal) (base i) k1_pay2 (row0 (F := Ideal) (e := .i32) dT) (row1 (F := Ideal) (e := .i32) dT) X w1b (ix2 r f) : EReal)
      = ∑ k, (fun k => X (ix2 s k) : Fin 1024 → EReal) k * w1b (ix3 0 k f) := by
    pointwise [k1_pay7]
    simp only [gathered i X dT P Q hP hQ dP dQ r s hs]
  rw [hp, hb]

include hP hQ dP dQ in
/-- The expert on a row of the block. -/
theorem row_expert (r : Fin 256) (s : Fin 2048) (hs : ∀ s', Is i P Q r s' ↔ s' = s) (d : Fin 1024) :
    (∑ f, k1_pay6 (F := Ideal) (base i) k1_pay2 (row0 (F := Ideal) (e := .i32) dT) (row1 (F := Ideal) (e := .i32) dT) X w1a (b1lo b1) (ix2 r f) * w2a (ix3 0 f d)
        + ∑ f, max (k1_pay7 (F := Ideal) (base i) k1_pay2 (row0 (F := Ideal) (e := .i32) dT) (row1 (F := Ideal) (e := .i32) dT) X w1b (ix2 r f) + b1hi b1 (ix3 0 0 f)) 0 * w2b (ix3 0 f d)
        + b2 (ix3 0 0 d) : EReal) = expert X w1a w1b b1 w2a w2b b2 s d := by
  unfold expert half
  refine congrArg₂ (fun u v : EReal => u + v + b2 (ix3 0 0 d)) (Finset.sum_congr rfl fun f _ => ?_) (Finset.sum_congr rfl fun f _ => ?_)
  · exact congrArg (fun u : EReal => u * w2a (ix3 0 f d)) (hidden_lo i X dT w1a b1 P Q hP hQ dP dQ r s hs f)
  · exact congrArg (fun u : EReal => u * w2b (ix3 0 f d)) (hidden_hi i X dT w1b b1 P Q hP hQ dP dQ r s hs f)

include hP hQ dP dQ in
/-- What the block adds to the output at a token and column. -/
theorem contrib_eq (inj : ∀ s s', (P s = P s' → s = s') ∧ (Q s = Q s' → s = s') ∧ P s ≠ Q s') (s : Fin 2048) (d : Fin 1024) :
    contrib (F := Ideal) i X dT wT w1a w1b b1 w2a w2b b2 (ix2 s d)
      = (if P s / 256 = (i 0).val then wT (ix2 0 s) * expert X w1a w1b b1 w2a w2b b2 s d else (0 : EReal))
        + (if Q s / 256 = (i 0).val then wT (ix2 1 s) * expert X w1a w1b b1 w2a w2b b2 s d else (0 : EReal)) := by
  have key : ∀ r : Fin 256, Is i P Q r s → ∀ s', Is i P Q r s' ↔ s' = s := by
    intro r h s'
    refine ⟨fun h' => ?_, fun e => e ▸ h⟩
    rcases h with h | h <;> rcases h' with h' | h'
    · exact (inj s' s).1 (h'.trans h.symm)
    · exact absurd (h.trans h'.symm) (inj s s').2.2
    · exact absurd (h'.trans h.symm) (inj s' s).2.2
    · exact (inj s' s).2.1 (h'.trans h.symm)
  refine Eq.trans ?_ (take_back (i 0).val (P s) (Q s) (inj s s).2.2 (wT (ix2 0 s)) (wT (ix2 1 s))
    (fun r => (∑ f, k1_pay6 (F := Ideal) (base i) k1_pay2 (row0 (F := Ideal) (e := .i32) dT) (row1 (F := Ideal) (e := .i32) dT) X w1a (b1lo b1) (ix2 r f) * w2a (ix3 0 f d)
        + ∑ f, max (k1_pay7 (F := Ideal) (base i) k1_pay2 (row0 (F := Ideal) (e := .i32) dT) (row1 (F := Ideal) (e := .i32) dT) X w1b (ix2 r f) + b1hi b1 (ix3 0 0 f)) 0 * w2b (ix3 0 f d)
        + b2 (ix3 0 0 d) : EReal)) (expert X w1a w1b b1 w2a w2b b2 s d) ?_ ?_)
  · unfold contrib
    pointwise [k1_pay8]
    refine Finset.sum_congr rfl fun r _ => ?_
    refine congrArg₂ (fun u v : EReal => u * v) (congrArg₂ (fun u v : EReal => u + v) ?_ ?_) rfl
    · rw [first_rows i dT P hP dP]
      refine (select_mark _ _ _).trans ?_
      have h : row0 (F := Ideal) (e := .f32) wT (ix2 0 s) = wT (ix2 0 s) := by
        unfold row0
        pointwise
      rw [h]
    · rw [second_rows i dT Q hQ dQ]
      refine (select_mark _ _ _).trans ?_
      have h : row1 (F := Ideal) (e := .f32) wT (ix2 0 s) = wT (ix2 1 s) := by
        unfold row1
        pointwise
      rw [h]
  · exact fun r h => row_expert i X dT w1a w1b b1 w2a w2b b2 P Q hP hQ dP dQ r s (key r (.inl h)) d
  · exact fun r h => row_expert i X dT w1a w1b b1 w2a w2b b2 P Q hP hQ dP dQ r s (key r (.inr h)) d

end Contribution

end Cert.Proof.Val
-- ==== Proof.Value.Windows.lean ====
/-
  What the second kernel's windows hold at each grid point: the tokens' rows and the two tables whole, and the blocks of
  the weights of the expert that the table of owners names.
-/
module

public import proofs.«01_k».proof.Proof.Value.Blocks
public import proofs.«01_k».proof.Proof.RunI.Launch

@[expose] public section

set_option maxRecDepth 16384

noncomputable section

namespace Cert.Proof.Val

open Idealize.ShloMosaic Cert.Proof.Math
open Cert.KernelIdeal
open Cert.KernelIdeal.Gen
open Cert.Proof.RunI Idealize.ShloMosaic.TcCoe

/-- A table of 24 read where a grid point reads it. -/
theorem table_at (pf : pre1.Contents (Elt Ideal)) (i : grid1.Coords) :
    (pf.at 0 (Rect.unit (s := S24) (k1_off1 i) S1.size (k1_off1_inb i)) numel1_S1 : BitVec 32) = (pf 0 : IVec S24 32) (ix1 (⟨(i 0).val, (i 0).isLt⟩ : Fin 24)) := by
  show (pf 0 : IVec S24 32) _ = _
  refine congrArg (pf 0 : IVec S24 32) (funext fun a => Fin.ext ?_)
  match a with
  | ⟨0, _⟩ =>
    show (BitVec.ofNat 32 (i 0).val).toNat + 1 * 0 = (i 0).val
    have hi : (i 0).val < 24 := (i 0).isLt
    rw [BitVec.toNat_ofNat, Nat.mod_eq_of_lt (by omega), Nat.mul_zero, Nat.add_zero]

section Windows
variable (A : (pcfg1 (F := Ideal)).Adm) (c : Dev nD) (V : (b : Ref sig .tc) → Buf (Elt Ideal) ((c : Thread nD τ).loc b)) (t : Fin (cfg1 A).N)

/-- The expert the table names for the block at a grid point. -/
def named : ℕ := ((A.1 0 : IVec S24 32) (ix1 (⟨((grid1.coords t) 0).val, ((grid1.coords t) 0).isLt⟩ : Fin 24))).toNat

theorem index3 : (pcfg1.win A 3).index t 0 = named A t := congrArg BitVec.toNat (table_at A.1 (grid1.coords t))
theorem index4 : (pcfg1.win A 4).index t 0 = named A t := congrArg BitVec.toNat (table_at A.1 (grid1.coords t))
theorem index5 : (pcfg1.win A 5).index t 0 = named A t := congrArg BitVec.toNat (table_at A.1 (grid1.coords t))
theorem index6 : (pcfg1.win A 6).index t 0 = named A t := congrArg BitVec.toNat (table_at A.1 (grid1.coords t))
theorem index7 : (pcfg1.win A 7).index t 0 = named A t := congrArg BitVec.toNat (table_at A.1 (grid1.coords t))
theorem index8 : (pcfg1.win A 8).index t 0 = named A t := congrArg BitVec.toNat (table_at A.1 (grid1.coords t))

/-- The tokens' rows, whole. -/
theorem read0 (s : Fin 2048) (k : Fin 1024) : blk1 A c V 0 t (ix2 s k) = V main_v0 (ix2 s k) := by
  unfold blk1
  rw [View.read]
  exact congrArg (V main_v0) (funext fun a => Fin.ext (by fin_cases a <;> simp <;> rfl))
/-- The table of places, whole. -/
theorem read1 (k : Fin 2) (s : Fin 2048) : blk1 A c V 1 t (ix2 k s) = V main_v3 (ix2 k s) := by
  unfold blk1
  rw [View.read]
  exact congrArg (V main_v3) (funext fun a => Fin.ext (by fin_cases a <;> simp <;> rfl))
/-- The table of weights, whole. -/
theorem read2 (k : Fin 2) (s : Fin 2048) : blk1 A c V 2 t (ix2 k s) = V main_v4 (ix2 k s) := by
  unfold blk1
  rw [View.read]
  exact congrArg (V main_v4) (funext fun a => Fin.ext (by fin_cases a <;> simp <;> rfl))

/-- An expert on a token, at one output column, over the second kernel's arrays. -/
def net (e : Fin 8) (s : Fin 2048) (d : Fin 1024) : EReal :=
  let x : Fin 1024 → EReal := fun k => V main_v0 (ix2 s k)
  let W : Fin 1024 → Fin 2048 → EReal := fun k f => V main_arg3 (ix3 e k f)
  let b : Fin 2048 → EReal := fun f => V main_v7 (ix3 e 0 f)
  let U : Fin 2048 → EReal := fun f => V main_arg5 (ix3 e f d)
  let z : EReal := V main_v8 (ix3 e 0 d)
  (∑ f, max (∑ k, x k * W k f + b f) 0 * U f) + z

/-- The two halves of an expert's hidden units are all of them. -/
theorem halves (x : Fin 1024 → EReal) (W : Fin 1024 → Fin 2048 → EReal) (b U : Fin 2048 → EReal) :
    half x (fun k f => W k ⟨f.val, by omega⟩) (fun f => b ⟨f.val, by omega⟩) (fun f => U ⟨f.val, by omega⟩)
      + half x (fun k f => W k ⟨1024 + f.val, by omega⟩) (fun f => b ⟨1024 + f.val, by omega⟩) (fun f => U ⟨1024 + f.val, by omega⟩)
      = ∑ f, max (∑ k, x k * W k f + b f) 0 * U f :=
  (Fin.sum_univ_add (a := 1024) (b := 1024) fun f : Fin 2048 => max (∑ k, x k * W k f + b f) 0 * U f).symm

variable (e : Fin 8) (h : named A t = e.val)
include h

/-- The first 1024 columns of the named expert's first layer. -/
theorem read3 (k f : Fin 1024) : blk1 A c V 3 t (ix3 0 k f) = V main_arg3 (ix3 e k (⟨f.val, by omega⟩ : Fin 2048)) := by
  unfold blk1
  rw [View.read]
  refine congrArg (V main_arg3) (funext fun a => Fin.ext ?_)
  fin_cases a <;> simp
  · exact (index3 A t).trans h
  · rfl
  · rfl
/-- The last 1024. -/
theorem read4 (k f : Fin 1024) : blk1 A c V 4 t (ix3 0 k f) = V main_arg3 (ix3 e k (⟨1024 + f.val, by omega⟩ : Fin 2048)) := by
  unfold blk1
  rw [View.read]
  refine congrArg (V main_arg3) (funext fun a => Fin.ext ?_)
  fin_cases a <;> simp
  · exact (index4 A t).trans h
  · rfl
  · have h1 : (pcfg1.win A 4).index t 2 = 1 := rfl
    rw [h1]
/-- Its first bias. -/
theorem read5 (f : Fin 2048) : blk1 A c V 5 t (ix3 0 0 f) = V main_v7 (ix3 e 0 f) := by
  unfold blk1
  rw [View.read]
  refine congrArg (V main_v7) (funext fun a => Fin.ext ?_)
  fin_cases a <;> simp
  · exact (index5 A t).trans h
  · rfl
  · rfl
/-- The first 1024 rows of its second layer. -/
theorem read6 (f d : Fin 1024) : blk1 A c V 6 t (ix3 0 f d) = V main_arg5 (ix3 e (⟨f.val, by omega⟩ : Fin 2048) d) := by
  unfold blk1
  rw [View.read]
  refine congrArg (V main_arg5) (funext fun a => Fin.ext ?_)
  fin_cases a <;> simp
  · exact (index6 A t).trans h
  · rfl
  · rfl
/-- The last 1024. -/
theorem read7 (f d : Fin 1024) : blk1 A c V 7 t (ix3 0 f d) = V main_arg5 (ix3 e (⟨1024 + f.val, by omega⟩ : Fin 2048) d) := by
  unfold blk1
  rw [View.read]
  refine congrArg (V main_arg5) (funext fun a => Fin.ext ?_)
  fin_cases a <;> simp
  · exact (index7 A t).trans h
  · have h1 : (pcfg1.win A 7).index t 1 = 1 := rfl
    rw [h1]
  · rfl
/-- Its second bias. -/
theorem read8 (d : Fin 1024) : blk1 A c V 8 t (ix3 0 0 d) = V main_v8 (ix3 e 0 d) := by
  unfold blk1
  rw [View.read]
  refine congrArg (V main_v8) (funext fun a => Fin.ext ?_)
  fin_cases a <;> simp
  · exact (index8 A t).trans h
  · rfl
  · rfl

/-- The block's expert is the named one. -/
theorem expert_named (s : Fin 2048) (d : Fin 1024) :
    expert (blk1 A c V 0 t) (blk1 A c V 3 t) (blk1 A c V 4 t) (blk1 A c V 5 t) (blk1 A c V 6 t) (blk1 A c V 7 t) (blk1 A c V 8 t) s d = net c V e s d := by
  unfold expert net
  refine congrArg₂ (fun u v : EReal => u + v) (Eq.trans ?_ (halves (fun k => V main_v0 (ix2 s k)) (fun k f => V main_arg3 (ix3 e k f)) (fun f => V main_v7 (ix3 e 0 f)) fun f => V main_arg5 (ix3 e f d)))
    (read8 A c V t e h d)
  have hx : (fun k => (blk1 A c V 0 t (ix2 s k) : EReal)) = fun k => V main_v0 (ix2 s k) := funext fun k => read0 A c V t s k
  refine congrArg₂ (fun u v : EReal => u + v) ?_ ?_
  · have hW : (fun k f => (blk1 A c V 3 t (ix3 0 k f) : EReal)) = fun k (f : Fin 1024) => V main_arg3 (ix3 e k (⟨f.val, by omega⟩ : Fin 2048)) :=
      funext fun k => funext fun f => read3 A c V t e h k f
    have hb : (fun f : Fin 1024 => (blk1 A c V 5 t (ix3 0 0 (⟨f.val, by omega⟩ : Fin 2048)) : EReal)) = fun f => V main_v7 (ix3 e 0 (⟨f.val, by omega⟩ : Fin 2048)) :=
      funext fun f => read5 A c V t e h _
    have hU : (fun f => (blk1 A c V 6 t (ix3 0 f d) : EReal)) = fun f : Fin 1024 => V main_arg5 (ix3 e (⟨f.val, by omega⟩ : Fin 2048) d) :=
      funext fun f => read6 A c V t e h f d
    exact (congrArg (fun x => half x _ _ _) hx).trans ((congrArg (fun W => half _ W _ _) hW).trans
      ((congrArg (fun b => half _ _ b _) hb).trans (congrArg (fun U => half _ _ _ U) hU)))
  · have hW : (fun k f => (blk1 A c V 4 t (ix3 0 k f) : EReal)) = fun k (f : Fin 1024) => V main_arg3 (ix3 e k (⟨1024 + f.val, by omega⟩ : Fin 2048)) :=
      funext fun k => funext fun f => read4 A c V t e h k f
    have hb : (fun f : Fin 1024 => (blk1 A c V 5 t (ix3 0 0 (⟨1024 + f.val, by omega⟩ : Fin 2048)) : EReal)) = fun f => V main_v7 (ix3 e 0 (⟨1024 + f.val, by omega⟩ : Fin 2048)) :=
      funext fun f => read5 A c V t e h _
    have hU : (fun f => (blk1 A c V 7 t (ix3 0 f d) : EReal)) = fun f : Fin 1024 => V main_arg5 (ix3 e (⟨1024 + f.val, by omega⟩ : Fin 2048) d) :=
      funext fun f => read7 A c V t e h f d
    exact (congrArg (fun x => half x _ _ _) hx).trans ((congrArg (fun W => half _ W _ _) hW).trans
      ((congrArg (fun b => half _ _ b _) hb).trans (congrArg (fun U => half _ _ _ U) hU)))

end Windows

end Cert.Proof.Val
-- ==== Proof.Value.Output.lean ====
/-
  The kernel's output: over the blocks in use, every token takes back its two rows, so it holds its two chosen experts,
  weighted.
-/
module

public import proofs.«01_k».proof.Proof.Value.Sorted
public import proofs.«01_k».proof.Proof.Value.Windows

@[expose] public section

set_option maxRecDepth 16384

noncomputable section

namespace Cert.Proof.Val

open Idealize.ShloMosaic Cert.Proof.Math
open Cert.KernelIdeal
open Cert.KernelIdeal.Gen
open Cert.Proof.RunI Idealize.ShloMosaic.TcCoe

section Points
variable (A : (pcfg1 (F := Ideal)).Adm) (c : Dev nD) (V : (b : Ref sig .tc) → Buf (Elt Ideal) ((c : Thread nD τ).loc b)) {a b : Fin 2048 → Fin 8}
variable (hab : ∀ s, a s ≠ b s)
variable (d0 : ∀ s : Fin 2048, V main_v3 (ix2 0 s) = BitVec.ofNat 32 (place a b s (a s))) (d1 : ∀ s : Fin 2048, V main_v3 (ix2 1 s) = BitVec.ofNat 32 (place a b s (b s)))
variable (hn : ∀ (t : Fin (cfg1 A).N) (e : Fin 8), owner a b t.val = e.val → named A t = e.val)

/-- What block `g` adds to a token's output at a column. -/
def add (a b : Fin 2048 → Fin 8) (s : Fin 2048) (d : Fin 1024) (g : ℕ) : EReal :=
  let w : Fin 2 → EReal := fun k => V main_v4 (ix2 k s)
  (if place a b s (a s) / 256 = g then w 0 * net c V (a s) s d else 0) + (if place a b s (b s) / 256 = g then w 1 * net c V (b s) s d else 0)

include hab d0 d1 hn in
theorem con_at (t : Fin (cfg1 A).N) (s : Fin 2048) (d : Fin 1024) : con A c V t (ix2 s d) = add c V a b s d t.val := by
  have hlt : ∀ s e, place a b s e < 2 ^ 20 := fun s e => lt_trans (place_lt_8192 s e) (by norm_num)
  have inj : ∀ s s', (place a b s (a s) = place a b s' (a s') → s = s') ∧ (place a b s (b s) = place a b s' (b s') → s = s')
      ∧ place a b s (a s) ≠ place a b s' (b s') := fun s s' =>
    ⟨fun h => (place_inj (pick_first s) (pick_first s') h).1, fun h => (place_inj (pick_second s) (pick_second s') h).1, fun h => by
      obtain ⟨h1, h2⟩ := place_inj (pick_first s) (pick_second s') h
      subst h1
      exact hab s h2⟩
  have hc : ((grid1.coords t) 0).val = t.val := coords1 t
  refine (contrib_eq (grid1.coords t) (blk1 A c V 0 t) (blk1 A c V 1 t) (blk1 A c V 2 t) (blk1 A c V 3 t) (blk1 A c V 4 t) (blk1 A c V 5 t)
    (blk1 A c V 6 t) (blk1 A c V 7 t) (blk1 A c V 8 t) (fun s => place a b s (a s)) (fun s => place a b s (b s)) (fun s => hlt s _) (fun s => hlt s _)
    (fun s => (read1 A c V t 0 s).trans (d0 s)) (fun s => (read1 A c V t 1 s).trans (d1 s)) inj s d).trans ?_
  rw [hc]
  unfold add
  refine congrArg₂ (fun u v : EReal => u + v) ?_ ?_
  · by_cases h : place a b s (a s) / 256 = t.val
    · rw [if_pos h, if_pos h]
      exact congrArg₂ (fun u v : EReal => u * v) (read2 A c V t 0 s) (expert_named A c V t (a s) (hn t _ (h ▸ owner_place (pick_first s))) s d)
    · rw [if_neg h, if_neg h]
  · by_cases h : place a b s (b s) / 256 = t.val
    · rw [if_pos h, if_pos h]
      exact congrArg₂ (fun u v : EReal => u * v) (read2 A c V t 1 s) (expert_named A c V t (b s) (hn t _ (h ▸ owner_place (pick_second s))) s d)
    · rw [if_neg h, if_neg h]

variable (hact : ∀ t : Fin (cfg1 A).N, act A t ↔ t.val < used a b)

/-- Adding a block's contribution, at one place. -/
theorem pay1_at (u v : FVec Ideal S2048x1024 .f32) (s : Fin 2048) (d : Fin 1024) : (k1_pay1 (F := Ideal) u v (ix2 s d) : EReal) = (v (ix2 s d) : EReal) + u (ix2 s d) := by
  pointwise [k1_pay1]

include hab d0 d1 hn hact in
/-- The output accumulated up to a block. -/
theorem acc_at (n : ℕ) (h : n < 24) (s : Fin 2048) (d : Fin 1024) : (acc A c V n (ix2 s d) : EReal) = ∑ g ∈ Finset.range (n + 1), add c V a b s d g := by
  induction n with
  | zero =>
    rw [Finset.sum_range_one]
    exact con_at A c V hab d0 d1 hn (p0 A) s d
  | succ n ih =>
    have hN : n + 1 < (cfg1 A).N := Nat.lt_of_lt_of_eq h N_1.symm
    rw [Finset.sum_range_succ, ← ih (by omega)]
    by_cases ha : act A ⟨n + 1, hN⟩
    · refine (congrFun (acc_act A c V ⟨n + 1, hN⟩ (Nat.succ_ne_zero n) ha) (ix2 s d)).trans ((pay1_at _ _ s d).trans ?_)
      exact congrArg (fun u : EReal => (acc A c V n (ix2 s d) : EReal) + u) (con_at A c V hab d0 d1 hn ⟨n + 1, hN⟩ s d)
    · refine (congrFun (acc_idle A c V ⟨n + 1, hN⟩ (Nat.succ_ne_zero n) ha) (ix2 s d)).trans ?_
      have hu : ¬ n + 1 < used a b := fun h2 => ha ((hact ⟨n + 1, hN⟩).mpr h2)
      have h1 := (place_div (pick_first (a := a) (b := b) s)).2.2
      have h2 := (place_div (pick_second (a := a) (b := b) s)).2.2
      have hz : add c V a b s d (n + 1) = 0 := by
        unfold add
        dsimp only
        rw [if_neg (show ¬ place a b s (a s) / 256 = n + 1 by omega), if_neg (show ¬ place a b s (b s) / 256 = n + 1 by omega), add_zero]
      rw [hz, add_zero]
      rfl

include hab d0 d1 hn hact in
/-- The output: the two chosen experts, weighted. -/
theorem acc_all (s : Fin 2048) (d : Fin 1024) : (acc A c V 23 (ix2 s d) : EReal)
    = let w : Fin 2 → EReal := fun k => V main_v4 (ix2 k s)
      w 0 * net c V (a s) s d + w 1 * net c V (b s) s d := by
  have hu := (used_bounds (a := a) (b := b)).2
  have h1 := (place_div (pick_first (a := a) (b := b) s)).2.2
  have h2 := (place_div (pick_second (a := a) (b := b) s)).2.2
  rw [acc_at A c V hab d0 d1 hn hact 23 (by norm_num)]
  unfold add
  rw [Finset.sum_add_distrib, Finset.sum_ite_eq, Finset.sum_ite_eq, if_pos (Finset.mem_range.mpr (by omega)), if_pos (Finset.mem_range.mpr (by omega))]

end Points

/-! ## From the router's outputs -/

variable (m : (ℓ : Loc nD τ sig) → Buf (Elt Ideal) ℓ)

/-- A two-column table read through its transpose. -/
theorem swap_at {α : Type} (v : S2048x2.Idx → α) (k : Fin 2) (s : Fin 2048) : transpose S2x2048 [1, 0] v transposes_S2048x2_S2x2048_1_0 (ix2 k s) = v (ix2 s k) := by
  pointwise

/-- A column of 24 read through the reshape that drops its second dimension. -/
theorem column_at (v : IVec S24x1 32) (g : Fin 24) : shapeCast S24 v shapeCasts_S24x1_S24 (ix1 g) = v (ix2 g 0) := by
  pointwise

/-- A single number read through the reshape that drops its second dimension. -/
theorem single_at (v : IVec S1x1 32) (j : S1.Idx) : shapeCast S1 v shapeCasts_S1x1_S1 j = v (ix2 0 0) := by
  rw [eq_ix1 j]
  pointwise

/-- The expert a block's windows are fetched for, from the table of owners. -/
theorem named_of (A : (pcfg1 (F := Ideal)).Adm) (v : IVec S24 32) (hv : (A.1 0 : IVec S24 32) = v) (a b : Fin 2048 → Fin 8)
    (ho : ∀ g : Fin 24, v (ix1 g) = BitVec.ofNat 32 (owner a b g.val)) (t : Fin (cfg1 A).N) (e : Fin 8) (h : owner a b t.val = e.val) : named A t = e.val := by
  have ht : t.val < 24 := Nat.lt_of_lt_of_eq t.isLt N_1
  have hg : ∀ g : Fin 24, g.val = t.val → (v (ix1 g)).toNat = e.val := fun g hg => by
    rw [ho g, hg, h, BitVec.toNat_ofNat, Nat.mod_eq_of_lt (by omega)]
  exact (congrArg BitVec.toNat (congrFun hv _)).trans (hg _ (coords1 t))

/-- The blocks at which the body runs, from the number in use. -/
theorem act_of (A : (pcfg1 (F := Ideal)).Adm) (v : IVec S1 32) (hv : (A.1 1 : IVec S1 32) = v) (n : ℕ) (hn : n < 24) (hu : ∀ j, v j = BitVec.ofNat 32 n)
    (t : Fin (cfg1 A).N) : act A t ↔ t.val < n := by
  have hi : ∀ j : S1.Idx, (v j).toInt = (n : ℤ) := fun j => by rw [hu j, toInt_nat n (by omega)]
  have hc : ((grid1.coords t) 0).val = t.val := coords1 t
  have key : ∀ j : S1.Idx, k1_cond1 (grid1.coords t) (v j) = 1#1 ↔ t.val < n := fun j => by
    rw [cond1_iff, hi, hc]
    exact Nat.cast_lt
  have hact : act A t ↔ ∀ j : S1.Idx, k1_cond1 (grid1.coords t) (v j) = 1#1 := by
    rw [← hv]
    exact ⟨fun h j => h j, fun h j => h j⟩
  rw [hact]
  exact ⟨fun h => (key _).mp (h (ix1 0)), fun h j => (key j).mpr h⟩

variable (hz : Above (inX m 0) (inG m 0) (inB m 0))
include hz

/-- The table of owners. -/
theorem owners_at (g : Fin 24) : tabBe (F := Ideal) m 0 (ix1 g) = BitVec.ofNat 32 (owner (c1 (inX m 0) (inG m 0) (inB m 0)) (c2 (inX m 0) (inG m 0) (inB m 0)) g.val) := by
  unfold tabBe
  exact (column_at (oBe (F := Ideal) (inX m 0) (inG m 0) (inB m 0)) g).trans (owner_eq hz g)

/-- The output the kernel leaves: the two chosen experts, weighted. -/
theorem out_eq (A : (pcfg1 (F := Ideal)).Adm) (h0 : (A.1 0 : IVec S24 32) = tabBe m 0) (h1 : (A.1 1 : IVec S1 32) = tabUsed m 0)
    (s : Fin 2048) (d : Fin 1024) : (acc A 0 (fun b => W3 m 0 b) 23 (ix2 s d) : EReal)
    = (oWw (F := Ideal) (inX m 0) (inG m 0) (inB m 0) (ix2 s 0) : EReal) * net 0 (fun b => W3 m 0 b) (c1 (inX m 0) (inG m 0) (inB m 0) s) s d
      + (oWw (F := Ideal) (inX m 0) (inG m 0) (inB m 0) (ix2 s 1) : EReal) * net 0 (fun b => W3 m 0 b) (c2 (inX m 0) (inG m 0) (inB m 0) s) s d := by
  have hd : ∀ (k : Fin 2) (s : Fin 2048), W3 m 0 main_v3 (ix2 k s) = oDst (F := Ideal) (inX m 0) (inG m 0) (inB m 0) (ix2 s k) := fun k s =>
    (congrFun (W3_dstT m 0) (ix2 k s)).trans (swap_at _ k s)
  have hw : ∀ (k : Fin 2) (s : Fin 2048), (W3 m 0 main_v4 (ix2 k s) : EReal) = oWw (F := Ideal) (inX m 0) (inG m 0) (inB m 0) (ix2 s k) := fun k s =>
    (congrFun (W3_wwT m 0) (ix2 k s)).trans (swap_at _ k s)
  rw [← hw, ← hw]
  exact acc_all A 0 (fun b => W3 m 0 b) (fun s => (k2_ne _).symm) (fun s => (hd 0 s).trans (dst_fst hz s))
    (fun s => (hd 1 s).trans (dst_snd hz s)) (named_of A _ h0 _ _ (owners_at m hz))
    (act_of A _ h1 _ used_bounds.2 (fun j => (single_at _ j).trans (used_eq hz))) s d

end Cert.Proof.Val
-- ==== Proof.Value.RefOut.lean ====
/-
  The reference's output: each expert on every token, weighted where the token chose it; so the sum of the two chosen
  experts, weighted.
-/
module

public import proofs.«01_k».proof.Proof.Value.Bincount
public import proofs.«01_k».proof.Proof.Value.Blocks

@[expose] public section

set_option maxRecDepth 16384

noncomputable section

namespace Cert.Proof.Val

open Idealize.ShloMosaic Cert.Proof.Math
open Cert.ReferenceIdeal Cert.ReferenceIdeal.Gen Cert.ReferenceIdeal.Value

/-- Two marked weights, times a value at each of eight: the two marked values, weighted. -/
theorem two_choices (j k : Fin 8) (hjk : j ≠ k) (u v : EReal) (F : Fin 8 → EReal) :
    (∑ e, ((if j = e then u else 0) + (if k = e then v else 0)) * F e) = u * F j + v * F k := by
  have one : ∀ (i : Fin 8) (w : EReal), (∑ e, (if i = e then w else 0) * F e) = w * F i := by
    intro i w
    rw [Finset.sum_eq_single i (fun e _ he => ?_) fun h => absurd (Finset.mem_univ i) h]
    · rw [if_pos rfl]
    · rw [if_neg he.symm, zero_mul]
  rw [← one j u, ← one k v, ← Finset.sum_add_distrib]
  refine Finset.sum_congr rfl fun e _ => ?_
  by_cases h : j = e
  · rw [if_neg (show ¬ k = e from fun h2 => hjk (h.trans h2.symm)), add_zero, zero_mul, add_zero]
  · rw [if_neg h, zero_add, zero_mul, zero_add]

variable (V : Valuation τ sig (Elt Ideal))

/-- An expert on a token, at one output column, as the reference computes it. -/
def refExpert (e : Fin 8) (t : Fin 2048) (d : Fin 1024) : EReal :=
  let x : Fin 1024 → EReal := fun k => V (Proc.devRef .tc main_arg0) (ix3 0 t k)
  let W : Fin 1024 → Fin 2048 → EReal := fun k f => V (Proc.devRef .tc main_arg3) (ix3 e k f)
  let b : Fin 2048 → EReal := fun f => V (Proc.devRef .tc main_arg4) (ix2 e f)
  let U : Fin 2048 → EReal := fun f => V (Proc.devRef .tc main_arg5) (ix3 e f d)
  let c : EReal := V (Proc.devRef .tc main_arg6) (ix2 e d)
  (∑ f, max (∑ k, x k * W k f + b f) 0 * U f) + c

/-- What the reference multiplies an expert by at a token. -/
def refWeight (t : Fin 2048) (e : BitVec 32) : EReal :=
  let f : Fin 2 → EReal := fun k => Scalar.select (IntOp.cmpi CmpIPredicate.eq ((res_main_v20 (F := Ideal) V : IVec S2048x2 32) (ix2 t k)) e)
    (res_main_v21 (F := Ideal) V (ix2 t k)) (id (constant (F := Ideal) S_ FTy.f32 0#32) ix0)
  ∑ k, f k

/-- The first three experts. -/
theorem ref_three (t : Fin 2048) (d : Fin 1024) : (res_main_v100 (F := Ideal) V (ix2 t d) : EReal)
    = refWeight V t 0#32 * refExpert V 0 t d + refWeight V t 1#32 * refExpert V 1 t d + refWeight V t 2#32 * refExpert V 2 t d := by
  pointwise [res_main_v100, res_main_v19]
  rfl

/-- The first six. -/
theorem ref_six (t : Fin 2048) (d : Fin 1024) : (res_main_v178 (F := Ideal) V (ix2 t d) : EReal)
    = refWeight V t 0#32 * refExpert V 0 t d + refWeight V t 1#32 * refExpert V 1 t d + refWeight V t 2#32 * refExpert V 2 t d
      + refWeight V t 3#32 * refExpert V 3 t d + refWeight V t 4#32 * refExpert V 4 t d + refWeight V t 5#32 * refExpert V 5 t d := by
  rw [← ref_three]
  pointwise [res_main_v178, res_main_v19]
  rfl

/-- All eight. -/
theorem ref_eight (t : Fin 2048) (d : Fin 1024) : (val5 (F := Ideal) V (Proc.devRef .tc main_v231) (ix3 0 t d) : EReal)
    = ∑ e : Fin 8, refWeight V t (BitVec.ofNat 32 e.val) * refExpert V e t d := by
  rw [Fin.sum_univ_eight]
  refine Eq.trans ?_ (congrArg (fun u : EReal => u + refWeight V t 6#32 * refExpert V 6 t d + refWeight V t 7#32 * refExpert V 7 t d) (ref_six V t d))
  rw [val5_main_v231]
  pointwise [res_main_v19]
  rfl

variable {V} {x : FVec Ideal Cert.KernelIdeal.S2048x1024 .f32} {wg : FVec Ideal Cert.KernelIdeal.S1024x8 .f32} {bg : FVec Ideal Cert.KernelIdeal.S1x8 .f32}

/-- The weights: a token's two probabilities over their sum. -/
theorem ref_share (h : Agree V x wg bg) (t : Fin 2048) (k : Fin 2) : (res_main_v21 (F := Ideal) V (ix2 t k) : EReal)
    = Ideal.div (prob x wg bg t (tops (prob x wg bg t) k)) (prob x wg bg t (c1 x wg bg t) + prob x wg bg t (c2 x wg bg t)) := by
  pointwise [res_main_v21]
  refine congrArg₂ Ideal.div (ref_value h t k) ?_
  let f : Fin 2 → EReal := fun k => res_main_values (F := Ideal) V (ix3 0 t k)
  show ∑ k, f k = _
  rw [Fin.sum_univ_two]
  exact congrArg₂ (fun u v : EReal => u + v) (ref_value h t 0) (ref_value h t 1)

theorem zero_const : (id (constant (F := Ideal) S_ FTy.f32 0#32) ix0 : EReal) = 0 := by
  show Ideal.ofBits FTy.f32 0#32 = 0
  simp [Ideal.ofBits, Ideal.ieee]

/-- The weight of an expert: each of the token's shares, if that choice was the expert. -/
theorem ref_weight (h : Agree V x wg bg) (t : Fin 2048) (e : Fin 8) : refWeight V t (BitVec.ofNat 32 e.val)
    = (if c1 x wg bg t = e then Ideal.div (prob x wg bg t (c1 x wg bg t)) (prob x wg bg t (c1 x wg bg t) + prob x wg bg t (c2 x wg bg t)) else 0)
      + (if c2 x wg bg t = e then Ideal.div (prob x wg bg t (c2 x wg bg t)) (prob x wg bg t (c1 x wg bg t) + prob x wg bg t (c2 x wg bg t)) else 0) := by
  unfold refWeight
  rw [Fin.sum_univ_two]
  rw [ref_choice h, ref_choice h, cmpi_experts, cmpi_experts]
  refine congrArg₂ (fun u v : EReal => u + v) ((select_mark _ _ _).trans ?_) ((select_mark _ _ _).trans ?_)
  · rw [ref_share h, zero_const]; rfl
  · rw [ref_share h, zero_const]; rfl

/-- The reference's output: the two chosen experts, weighted. -/
theorem ref_out (h : Agree V x wg bg) (t : Fin 2048) (d : Fin 1024) : (val5 (F := Ideal) V (Proc.devRef .tc main_v231) (ix3 0 t d) : EReal)
    = Ideal.div (prob x wg bg t (c1 x wg bg t)) (prob x wg bg t (c1 x wg bg t) + prob x wg bg t (c2 x wg bg t)) * refExpert V (c1 x wg bg t) t d
      + Ideal.div (prob x wg bg t (c2 x wg bg t)) (prob x wg bg t (c1 x wg bg t) + prob x wg bg t (c2 x wg bg t)) * refExpert V (c2 x wg bg t) t d := by
  rw [ref_eight]
  refine (Finset.sum_congr rfl fun e _ => congrArg (fun u : EReal => u * refExpert V e t d) (ref_weight h t e)).trans ?_
  exact two_choices _ _ (k2_ne _).symm _ _ fun e => refExpert V e t d

end Cert.Proof.Val
-- ==== Proof.Value.Whole.lean ====
/-
  The kernel's output is the reference's: both are each token's two chosen experts, weighted, and the experts read the
  same arguments.
-/
module

public import proofs.«01_k».proof.Proof.Value.Output
public import proofs.«01_k».proof.Proof.Value.RefOut
public import proofs.«01_k».proof.Proof.Value.Ends

@[expose] public section

set_option maxRecDepth 16384

noncomputable section

namespace Cert.Proof.Val

open Idealize.ShloMosaic Cert.Proof.Math
open Cert.KernelIdeal
open Cert.KernelIdeal.Gen
open Cert.Proof.RunI Idealize.ShloMosaic.TcCoe

/-- One output column of a two-layer expert on one token. -/
def layer (x : Fin 1024 → EReal) (W : Fin 1024 → Fin 2048 → EReal) (b U : Fin 2048 → EReal) (z : EReal) : EReal :=
  (∑ f, max (∑ k, x k * W k f + b f) 0 * U f) + z

/-- It is determined by what it reads. -/
theorem layer_congr {x x' : Fin 1024 → EReal} {W W' : Fin 1024 → Fin 2048 → EReal} {b b' U U' : Fin 2048 → EReal} {z z' : EReal}
    (hx : ∀ k, x k = x' k) (hW : ∀ k f, W k f = W' k f) (hb : ∀ f, b f = b' f) (hU : ∀ f, U f = U' f) (hz : z = z') : layer x W b U z = layer x' W' b' U' z' := by
  rw [funext hx, funext fun k => funext (hW k), funext hb, funext hU, hz]

/-- The first biases read through the reshape that adds a middle 1. -/
theorem bias1_at (v : FVec Ideal S8x2048 .f32) (e : Fin 8) (f : Fin 2048) : shapeCast S8x1x2048 v shapeCasts_S8x2048_S8x1x2048 (ix3 e 0 f) = v (ix2 e f) := by
  pointwise

/-- The second biases likewise. -/
theorem bias2_at (v : FVec Ideal S8x1024 .f32) (e : Fin 8) (d : Fin 1024) : shapeCast S8x1x1024 v shapeCasts_S8x1024_S8x1x1024 (ix3 e 0 d) = v (ix2 e d) := by
  pointwise

variable (m : (ℓ : Loc nD τ sig) → Buf (Elt Ideal) ℓ)
variable (m' : (ℓ : Loc Cert.ReferenceIdeal.nD Cert.ReferenceIdeal.τ Cert.ReferenceIdeal.sig) → Buf (Elt Ideal) ℓ)

section Experts
variable {x : FVec Ideal S2048x1024 .f32} {wg : FVec Ideal S1024x8 .f32} {bg : FVec Ideal S1x8 .f32}
variable (ha : Agree (StableHlo.launchContents m' 0) x wg bg) (hx : W3 m 0 main_v0 = x)
    (h3 : m' (((0 : Dev Cert.ReferenceIdeal.nD).tc : Thread Cert.ReferenceIdeal.nD Cert.ReferenceIdeal.τ).loc Cert.ReferenceIdeal.main_arg3) = m (((0 : Dev nD).tc : Thread nD τ).loc main_arg3))
    (h4 : m' (((0 : Dev Cert.ReferenceIdeal.nD).tc : Thread Cert.ReferenceIdeal.nD Cert.ReferenceIdeal.τ).loc Cert.ReferenceIdeal.main_arg4) = m (((0 : Dev nD).tc : Thread nD τ).loc main_arg4))
    (h5 : m' (((0 : Dev Cert.ReferenceIdeal.nD).tc : Thread Cert.ReferenceIdeal.nD Cert.ReferenceIdeal.τ).loc Cert.ReferenceIdeal.main_arg5) = m (((0 : Dev nD).tc : Thread nD τ).loc main_arg5))
    (h6 : m' (((0 : Dev Cert.ReferenceIdeal.nD).tc : Thread Cert.ReferenceIdeal.nD Cert.ReferenceIdeal.τ).loc Cert.ReferenceIdeal.main_arg6) = m (((0 : Dev nD).tc : Thread nD τ).loc main_arg6))
include ha hx h3 h4 h5 h6

/-- The second kernel's experts are the reference's. -/
theorem net_ref (e : Fin 8) (s : Fin 2048) (d : Fin 1024) : net 0 (fun b => W3 m 0 b) e s d = refExpert (StableHlo.launchContents m' 0) e s d := by
  have k3 : W3 m 0 main_arg3 = m ((0 : Dev nD).tc.loc main_arg3) :=
    (W3_of m 0 main_arg3 (by decide)).trans ((W2_of m 0 main_arg3 (by decide)).trans (V1_of m 0 main_arg3 (by decide)))
  have k5 : W3 m 0 main_arg5 = m ((0 : Dev nD).tc.loc main_arg5) :=
    (W3_of m 0 main_arg5 (by decide)).trans ((W2_of m 0 main_arg5 (by decide)).trans (V1_of m 0 main_arg5 (by decide)))
  unfold net refExpert
  exact layer_congr (fun k => (congrFun hx (ix2 s k)).trans (ha.hx s k).symm) (fun k f => congrFun (k3.trans h3.symm) (ix3 e k f))
    (fun f => (congrFun (W3_b1 m 0) (ix3 e 0 f)).trans ((bias1_at _ e f).trans (congrFun h4.symm (ix2 e f))))
    (fun f => congrFun (k5.trans h5.symm) (ix3 e f d))
    ((congrFun (W3_b2 m 0) (ix3 e 0 d)).trans ((bias2_at _ e d).trans (congrFun h6.symm (ix2 e d))))

end Experts

variable (hz : Above (inX m 0) (inG m 0) (inB m 0)) (ha : Agree (StableHlo.launchContents m' 0) (inX m 0) (inG m 0) (inB m 0))
    (h3 : m' (((0 : Dev Cert.ReferenceIdeal.nD).tc : Thread Cert.ReferenceIdeal.nD Cert.ReferenceIdeal.τ).loc Cert.ReferenceIdeal.main_arg3) = m (((0 : Dev nD).tc : Thread nD τ).loc main_arg3))
    (h4 : m' (((0 : Dev Cert.ReferenceIdeal.nD).tc : Thread Cert.ReferenceIdeal.nD Cert.ReferenceIdeal.τ).loc Cert.ReferenceIdeal.main_arg4) = m (((0 : Dev nD).tc : Thread nD τ).loc main_arg4))
    (h5 : m' (((0 : Dev Cert.ReferenceIdeal.nD).tc : Thread Cert.ReferenceIdeal.nD Cert.ReferenceIdeal.τ).loc Cert.ReferenceIdeal.main_arg5) = m (((0 : Dev nD).tc : Thread nD τ).loc main_arg5))
    (h6 : m' (((0 : Dev Cert.ReferenceIdeal.nD).tc : Thread Cert.ReferenceIdeal.nD Cert.ReferenceIdeal.τ).loc Cert.ReferenceIdeal.main_arg6) = m (((0 : Dev nD).tc : Thread nD τ).loc main_arg6))
include hz ha h3 h4 h5 h6

/-- The reference's output at a place is what the second kernel has accumulated there after its last block. -/
theorem out_ref (A : (pcfg1 (F := Ideal)).Adm) (hA : A.1 = tabs m 0) (s : Fin 2048) (d : Fin 1024) :
    (Cert.ReferenceIdeal.Value.val5 (F := Ideal) (StableHlo.launchContents m' 0) (Proc.devRef .tc Cert.ReferenceIdeal.main_v231) (ix3 0 s d) : EReal)
      = acc A 0 (fun b => W3 m 0 b) 23 (ix2 s d) := by
  have hx : W3 m 0 main_v0 = inX m 0 := (W3_of m 0 main_v0 (by decide)).trans (W2_of m 0 main_v0 (by decide))
  refine (ref_out ha s d).trans ((out_eq m hz A ((congrFun hA 0).trans (tabs_zero m 0)) ((congrFun hA 1).trans (tabs_one m 0)) s d).trans ?_).symm
  rw [ww_fst hz, ww_snd hz, net_ref m m' ha hx h3 h4 h5 h6, net_ref m m' ha hx h3 h4 h5 h6]

omit ha h3 h4 h5 h6 in
/-- The body runs at the first block. -/
theorem first_runs (A : (pcfg1 (F := Ideal)).Adm) (hA : A.1 = tabs m 0) : act A (p0 A) :=
  (act_of A _ ((congrFun hA 1).trans (tabs_one m 0)) _ used_bounds.2 (fun j => (single_at _ j).trans (used_eq hz)) (p0 A)).mpr used_bounds.1

end Cert.Proof.Val
-- ==== Proof.lean ====
/- The proof of the claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.RunI.Run
public import proofs.«01_k».proof.Proof.RunK.Run
public import proofs.«01_k».proof.Proof.Value.Ends
public import proofs.«01_k».proof.Proof.Value.Finite
public import proofs.«01_k».proof.Proof.Value.Bincount
public import proofs.«01_k».proof.Proof.Value.Whole
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The side conditions of the precondition. -/
theorem pre_facts : Cert.Pre_finite_router.Facts := ⟨by decide, by decide, by decide, by decide, by decide, by decide, by decide⟩

/-- Under the precondition every probability is above the kernel's mask. -/
theorem above (m : (ℓ : Loc Cert.KernelIdeal.nD Cert.KernelIdeal.τ Cert.KernelIdeal.sig) → Buf (Elt Ideal) ℓ)
    (h : Pre_KernelIdeal_finite_router (hPre_finite_router := pre_facts) m) (c : Dev Cert.KernelIdeal.nD) :
    Val.Above (RunI.inX m c) (RunI.inG m c) (RunI.inB m c) := by
  obtain ⟨h0, h1, h2⟩ := @Val.reals_of_pre pre_facts _ _ _ _ _ _ _ (h c)
  refine Val.above_of_real fun t e => Val.score_real (fun i => ?_) (fun i => ?_) (fun i => ?_) t e
  · rw [Val.inX_eq]; exact h0 _
  · rw [show RunI.inG m c = _ from Cert.KernelIdeal.Gen.V1_of m c Cert.KernelIdeal.main_arg1 (by decide)]; exact h1 i
  · rw [Val.inB_eq]; exact h2 _

/-- The kernel's output, shares and loss are the reference's. -/
theorem value : algebraic_KernelIdeal_ReferenceIdeal_pre_finite_router (hKernelIdeal := Cert.KernelIdeal.Gen.facts)
    (hReferenceIdeal := Cert.ReferenceIdeal.Gen.facts) (hPre_finite_router := pre_facts) := by
  intro m g m' g' hpre hargs
  have hz := above m hpre 0
  refine ⟨fun c => shapeCast Cert.KernelIdeal.S1x2048x1024 (RunI.acc (RunI.adm1 (F := Ideal) m 0) 0 (fun b => RunI.W3 m 0 (Proc.devRef .tc b)) 23)
      Cert.KernelIdeal.Gen.shapeCasts_S2048x1024_S1x2048x1024,
    fun c => shapeCast Cert.KernelIdeal.S8 (RunI.oUsage (RunI.inX m c) (RunI.inG m c) (RunI.inB m c)) Cert.KernelIdeal.Gen.shapeCasts_S1x8_S8,
    fun c => shapeCast Cert.KernelIdeal.S_ (RunI.oLbl (RunI.inX m c) (RunI.inG m c) (RunI.inB m c)) Cert.KernelIdeal.Gen.shapeCasts_S1x1_S_, ?_, ?_⟩
  · refine θ_run_mono (RunI.runs m g) fun r h c => ?_
    obtain ⟨h0, h1, h2, h3, h4, h5, h6, o, ho, h10, h11, h12⟩ := h.1 c
    have he := ho (Val.first_runs m hz (RunI.adm1 (F := Ideal) m 0) (by unfold RunI.adm1; rfl))
    subst he
    exact ⟨h10.trans (Val.W5_out m c _), h11.trans (Val.W5_usage m c _), h12.trans (Val.W5_lbl m c _), h0, h1, h2, h3, h4, h5, h6⟩
  · refine (θ_run Cert.ReferenceIdeal.defs _ _).mono (fun r h c => ?_) (Cert.ReferenceIdeal.Value.run (F := Ideal) m' g')
    obtain rfl : c = 0 := RunI.dev_eq c
    obtain ⟨h231, h245, h249, hk⟩ := h 0
    obtain ⟨e0, e1, e2, e3, e4, e5, e6⟩ := hargs 0
    have ha := Val.agree m m' 0 e0 e1 e2
    refine ⟨funext fun i => ?_, funext fun i => ?_, funext fun i => ?_, hk⟩
    · obtain ⟨s, d, rfl⟩ : ∃ (s : Fin 2048) (d : Fin 1024), i = ix3 (0 : Fin 1) s d :=
        ⟨i 1, i 2, (eq_ix3 i).trans (congrArg (fun z : Fin 1 => ix3 z (i 1 : Fin 2048) (i 2 : Fin 1024)) (Subsingleton.elim (α := Fin 1) _ _))⟩
      exact (congrFun (h231.trans (Cert.ReferenceIdeal.Value.val5_main_v231 _).symm) _).trans
        ((Val.out_ref m m' hz ha e3 e4 e5 e6 (RunI.adm1 (F := Ideal) m 0) (by unfold RunI.adm1; rfl) s d).trans (Val.output_at _ s d).symm)
    · rw [eq_ix1 i]
      exact (congrFun h245 _).trans ((Val.ref_usage ha (i 0)).trans ((Val.shares_at _ (i 0)).trans (Val.usage_eq hz (i 0))).symm)
    · exact (congrFun h249 i).trans ((Val.ref_loss ha i).trans (Val.one_at _ i).symm)

theorem claim : Cert.Claim := ⟨Cert.Kernel.Gen.facts, Cert.KernelIdeal.Gen.facts, Cert.ReferenceIdeal.Gen.facts, pre_facts,
  fun m g _ => RunK.frame m g,
  fun m g _ => RunI.frame m g,
  fun m g _ => RunI.frame m g,
  fun m g _ => (θ_run Cert.ReferenceIdeal.defs _ _).mono (fun r h => ⟨fun c => (h c).2.2.2, sem_eq_zero_of_no_sems (by decide) r.2⟩)
    (Cert.ReferenceIdeal.Value.run (F := Ideal) m g),
  fun m g _ => (θ_run Cert.ReferenceIdeal.defs _ _).mono (fun r h => ⟨fun c => (h c).2.2.2, sem_eq_zero_of_no_sems (by decide) r.2⟩)
    (Cert.ReferenceIdeal.Value.run (F := Ideal) m g),
  trivial, value⟩

end Cert.Proof

end
